-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x7168 : Shape := ⟨3, ![4, 1024, 7168]⟩
abbrev S7168 : Shape := ⟨1, ![7168]⟩
abbrev S2304x7168 : Shape := ⟨2, ![2304, 7168]⟩
abbrev S2304 : Shape := ⟨1, ![2304]⟩
abbrev S4x1024 : Shape := ⟨2, ![4, 1024]⟩
abbrev S4096x7168 : Shape := ⟨2, ![4096, 7168]⟩
abbrev S1x7168 : Shape := ⟨2, ![1, 7168]⟩
abbrev S1x2304 : Shape := ⟨2, ![1, 2304]⟩
abbrev S4096x1 : Shape := ⟨2, ![4096, 1]⟩
abbrev S4096x1792 : Shape := ⟨2, ![4096, 1792]⟩
abbrev S4096x256 : Shape := ⟨2, ![4096, 256]⟩
abbrev S256x7168 : Shape := ⟨2, ![256, 7168]⟩
abbrev S256x1 : Shape := ⟨2, ![256, 1]⟩
abbrev S256x1792 : Shape := ⟨2, ![256, 1792]⟩
abbrev S256x256 : Shape := ⟨2, ![256, 256]⟩
abbrev S256 : Shape := ⟨1, ![256]⟩
abbrev S256x2304 : Shape := ⟨2, ![256, 2304]⟩
abbrev S1x128 : Shape := ⟨2, ![1, 128]⟩
abbrev S256x128 : Shape := ⟨2, ![256, 128]⟩
abbrev S4x1024x14x128 : Shape := ⟨4, ![4, 1024, 14, 128]⟩
abbrev S4x1024x2x128 : Shape := ⟨4, ![4, 1024, 2, 128]⟩
abbrev S4x1024x1 : Shape := ⟨3, ![4, 1024, 1]⟩

abbrev nBuf : Space → Nat
  | .hbm => 19
  | .vmem => 17
  | .smem => 0
  | _ => 0

abbrev bufTy : (tb : Table) → Fin (tcTables nBuf tb) → BufTy
  | .hbm, ⟨0, _⟩ => ⟨S4x1024x7168, .bf16⟩
  | .hbm, ⟨1, _⟩ => ⟨S7168, .f32⟩
  | .hbm, ⟨2, _⟩ => ⟨S2304x7168, .fp8e4m3⟩
  | .hbm, ⟨3, _⟩ => ⟨S2304, .f32⟩
  | .hbm, ⟨4, _⟩ => ⟨S4x1024, .i32⟩
  | .hbm, ⟨5, _⟩ => ⟨S4096x7168, .bf16⟩
  | .hbm, ⟨6, _⟩ => ⟨S1x7168, .f32⟩
  | .hbm, ⟨7, _⟩ => ⟨S1x2304, .f32⟩
  | .hbm, ⟨8, _⟩ => ⟨S4096x1, .i32⟩
  | .hbm, ⟨9, _⟩ => ⟨S4096x1792, .bf16⟩
  | .hbm, ⟨10, _⟩ => ⟨S4096x256, .bf16⟩
  | .hbm, ⟨11, _⟩ => ⟨S4096x256, .bf16⟩
  | .hbm, ⟨12, _⟩ => ⟨S4096x7168, .fp8e4m3⟩
  | .hbm, ⟨13, _⟩ => ⟨S4096x1, .f32⟩
  | .hbm, ⟨14, _⟩ => ⟨S4x1024x14x128, .bf16⟩
  | .hbm, ⟨15, _⟩ => ⟨S4x1024x2x128, .bf16⟩
  | .hbm, ⟨16, _⟩ => ⟨S4x1024x2x128, .bf16⟩
  | .hbm, ⟨17, _⟩ => ⟨S4x1024x7168, .fp8e4m3⟩
  | .hbm, ⟨18, _⟩ => ⟨S4x1024x1, .f32⟩
  | .local _ .vmem, ⟨0, _⟩ => ⟨S256x7168, .bf16⟩
  | .local _ .vmem, ⟨1, _⟩ => ⟨S256x7168, .bf16⟩
  | .local _ .vmem, ⟨2, _⟩ => ⟨S1x7168, .f32⟩
  | .local _ .vmem, ⟨3, _⟩ => ⟨S2304x7168, .fp8e4m3⟩
  | .local _ .vmem, ⟨4, _⟩ => ⟨S1x2304, .f32⟩
  | .local _ .vmem, ⟨5, _⟩ => ⟨S256x1, .i32⟩
  | .local _ .vmem, ⟨6, _⟩ => ⟨S256x1, .i32⟩
  | .local _ .vmem, ⟨7, _⟩ => ⟨S256x1792, .bf16⟩
  | .local _ .vmem, ⟨8, _⟩ => ⟨S256x1792, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x7168, .fp8e4m3⟩
  | .local _ .vmem, ⟨14, _⟩ => ⟨S256x7168, .fp8e4m3⟩
  | .local _ .vmem, ⟨15, _⟩ => ⟨S256x1, .f32⟩
  | .local _ .vmem, ⟨16, _⟩ => ⟨S256x1, .f32⟩
  | _, _ => ⟨S4x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x7168 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4x1024x7168 : Shape := ⟨3, ![4, 1024, 7168]⟩
abbrev S7168 : Shape := ⟨1, ![7168]⟩
abbrev S2304x7168 : Shape := ⟨2, ![2304, 7168]⟩
abbrev S2304 : Shape := ⟨1, ![2304]⟩
abbrev S4x1024 : Shape := ⟨2, ![4, 1024]⟩
abbrev S1x1x7168 : Shape := ⟨3, ![1, 1, 7168]⟩
abbrev S1x1x2304 : Shape := ⟨3, ![1, 1, 2304]⟩
abbrev S4x1024x1 : Shape := ⟨3, ![4, 1024, 1]⟩
abbrev S4x1024x14x128 : Shape := ⟨4, ![4, 1024, 14, 128]⟩
abbrev S4x1024x2x128 : Shape := ⟨4, ![4, 1024, 2, 128]⟩
abbrev S1x1x254 : Shape := ⟨3, ![1, 1, 254]⟩
abbrev S4x1024x254 : Shape := ⟨3, ![4, 1024, 254]⟩
abbrev S4096x7168 : Shape := ⟨2, ![4096, 7168]⟩
abbrev S4096x2304 : Shape := ⟨2, ![4096, 2304]⟩
abbrev S4x1024x2304 : Shape := ⟨3, ![4, 1024, 2304]⟩
abbrev S4x1024x1792 : Shape := ⟨3, ![4, 1024, 1792]⟩
abbrev S4x1024x256 : Shape := ⟨3, ![4, 1024, 256]⟩
abbrev S1x1x64 : Shape := ⟨3, ![1, 1, 64]⟩
abbrev S4x1024x64 : Shape := ⟨3, ![4, 1024, 64]⟩
abbrev S4x1024x1x64 : Shape := ⟨4, ![4, 1024, 1, 64]⟩
abbrev S4x1024x14x64 : Shape := ⟨4, ![4, 1024, 14, 64]⟩
abbrev S4x1024x2x64 : Shape := ⟨4, ![4, 1024, 2, 64]⟩

abbrev nBuf : Space → Nat
  | .hbm => 13
  | .vmem => 10
  | .smem => 0
  | _ => 0

abbrev bufTy : (tb : Table) → Fin (tcTables nBuf tb) → BufTy
  | .hbm, ⟨0, _⟩ => ⟨S4x1024x7168, .bf16⟩
  | .hbm, ⟨1, _⟩ => ⟨S7168, .f32⟩
  | .hbm, ⟨2, _⟩ => ⟨S2304x7168, .fp8e4m3⟩
  | .hbm, ⟨3, _⟩ => ⟨S2304, .f32⟩
  | .hbm, ⟨4, _⟩ => ⟨S4x1024, .i32⟩
  | .hbm, ⟨5, _⟩ => ⟨S1x1x7168, .f32⟩
  | .hbm, ⟨6, _⟩ => ⟨S1x1x2304, .f32⟩
  | .hbm, ⟨7, _⟩ => ⟨S4x1024x1, .i32⟩
  | .hbm, ⟨8, _⟩ => ⟨S4x1024x14x128, .bf16⟩
  | .hbm, ⟨9, _⟩ => ⟨S4x1024x2x128, .bf16⟩
  | .hbm, ⟨10, _⟩ => ⟨S4x1024x2x128, .bf16⟩
  | .hbm, ⟨11, _⟩ => ⟨S4x1024x7168, .fp8e4m3⟩
  | .hbm, ⟨12, _⟩ => ⟨S4x1024x1, .f32⟩
  | .local _ .vmem, ⟨0, _⟩ => ⟨S4x1024x7168, .bf16⟩
  | .local _ .vmem, ⟨1, _⟩ => ⟨S1x1x7168, .f32⟩
  | .local _ .vmem, ⟨2, _⟩ => ⟨S2304x7168, .fp8e4m3⟩
  | .local _ .vmem, ⟨3, _⟩ => ⟨S1x1x2304, .f32⟩
  | .local _ .vmem, ⟨4, _⟩ => ⟨S4x1024x1, .i32⟩
  | .local _ .vmem, ⟨5, _⟩ => ⟨S4x1024x14x128, .bf16⟩
  | .local _ .vmem, ⟨6, _⟩ => ⟨S4x1024x2x128, .bf16⟩
  | .local _ .vmem, ⟨7, _⟩ => ⟨S4x1024x2x128, .bf16⟩
  | .local _ .vmem, ⟨8, _⟩ => ⟨S4x1024x7168, .fp8e4m3⟩
  | .local _ .vmem, ⟨9, _⟩ => ⟨S4x1024x1, .f32⟩
  | _, _ => ⟨S4x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4x1024x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024x14x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024x2x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1024x2x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1024x7168 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x1024x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Exponent.lean ====
/-
  The exponent of the scale. The kernel finds the exponent field of `x` by bisection on the 256 fields of a binary32 word; the
  reference counts the powers of two that do not exceed `|x|`. Both are read here on the extended reals, and the two scales
  (the power of two and its inverse, each saturated at the ends of the format) are shown equal.
-/
module

public import Idealize.ShloMosaic.Lib.Pointwise

@[expose] public section

set_option maxRecDepth 16384

noncomputable section

namespace Cert.Proof.Exponent

open Idealize.ShloMosaic

/-- What the binary32 word with exponent field `t`, sign and fraction zero, denotes. -/
def pw (t : ℕ) : EReal := Ideal.ofBits .f32 (BitVec.ofNat 32 (t * 2 ^ 23))

theorem word_neg : ∀ t : Fin 256, ((BitVec.ofNat 32 (t.val * 2 ^ 23)).extractLsb' (8 + 23) 1 == 1#1) = false := by decide +kernel
theorem word_exp : ∀ t : Fin 256, ((BitVec.ofNat 32 (t.val * 2 ^ 23)).extractLsb' 23 8).toNat = t.val := by decide +kernel
theorem word_frac : ∀ t : Fin 256, ((BitVec.ofNat 32 (t.val * 2 ^ 23)).extractLsb' 0 23).toNat = 0 := by decide +kernel

theorem pw_eq (t : ℕ) (ht : t < 256) :
    pw t = if t = 255 then ⊤ else if t = 0 then 0 else (((2 : ℝ) ^ ((t : ℤ) - 127) : ℝ) : EReal) := by
  have h1 := word_neg ⟨t, ht⟩
  have h2 := word_exp ⟨t, ht⟩
  have h3 := word_frac ⟨t, ht⟩
  simp only at h1 h2 h3
  show Ideal.ieee 8 23 (BitVec.ofNat 32 (t * 2 ^ 23)) = _
  unfold Ideal.ieee
  simp only [h1, h2, h3]
  norm_num
  split
  · rfl
  split
  · rfl
  · norm_cast
    generalize Int.subNatNat t 127 = z
    have : z = z - 23 + 23 := by ring
    conv_rhs => rw [this, zpow_add₀ (by norm_num : (2 : ℝ) ≠ 0)]
    rw [mul_comm]
    norm_num

theorem pw_zero : pw 0 = 0 := by rw [pw_eq 0 (by omega)]; simp
theorem pw_top : pw 255 = ⊤ := by rw [pw_eq 255 (by omega)]; simp
theorem pw_mid (t : ℕ) (h0 : 0 < t) (h1 : t < 255) : pw t = (((2 : ℝ) ^ ((t : ℤ) - 127) : ℝ) : EReal) := by
  rw [pw_eq t (by omega), if_neg (by omega), if_neg (by omega)]

/-- The values of the words grow with the field. -/
theorem pw_mono {s t : ℕ} (h : s ≤ t) (ht : t < 256) : pw s ≤ pw t := by
  rcases Nat.eq_zero_or_pos s with rfl | hs
  · rw [pw_zero]
    rcases Nat.eq_zero_or_pos t with rfl | ht0
    · rw [pw_zero]
    rcases Nat.lt_or_ge t 255 with h5 | h5
    · rw [pw_mid t ht0 h5]
      exact_mod_cast (zpow_pos (by norm_num : (0 : ℝ) < 2) _).le
    · obtain rfl : t = 255 := by omega
      rw [pw_top]; exact le_top
  rcases Nat.lt_or_ge t 255 with h5 | h5
  · rw [pw_mid t (by omega) h5, pw_mid s hs (by omega)]
    have h' : (2 : ℝ) ^ ((s : ℤ) - 127) ≤ 2 ^ ((t : ℤ) - 127) := zpow_le_zpow_right₀ (by norm_num : (1 : ℝ) ≤ 2) (by omega)
    exact EReal.coe_le_coe_iff.mpr h'
  · obtain rfl : t = 255 := by omega
    rw [pw_top]; exact le_top

/-- Two to the exponent that the word with field `t` has, by the exponential. -/
theorem exp2_eq_pw (t : ℕ) (h0 : 0 < t) (h1 : t < 255) : Ideal.exp2 (((t : ℝ) - 127 : ℝ) : EReal) = pw t := by
  rw [pw_mid t h0 h1, Ideal.exp2_coe]
  congr 1
  have : ((t : ℝ) - 127) = (((t : ℤ) - 127 : ℤ) : ℝ) := by push_cast; ring
  rw [this]
  exact Real.rpow_intCast 2 _

/-! ## The kernel's bisection -/

theorem shl_field : ∀ t : Fin 256, IntOp.shli ArithUnit.vector (BitVec.ofNat 32 t.val) 23#32 = BitVec.ofNat 32 (t.val * 2 ^ 23) := by
  decide +kernel

/-- One step of the bisection: the field grows by `n` unless the word with the grown field exceeds `a`. -/
def step (a : EReal) (n f : BitVec 32) : BitVec 32 :=
  if a < Ideal.ofBits .f32 (IntOp.shli ArithUnit.vector (IntOp.addi f n) 23#32) then f else IntOp.addi f n

/-- The bisection: eight steps from zero. -/
def field (a : EReal) : BitVec 32 :=
  step a 1#32 (step a 2#32 (step a 4#32 (step a 8#32 (step a 16#32 (step a 32#32 (step a 64#32 (step a 128#32 0#32)))))))

/-- What the bisection keeps: the field's word is at most `a`, and the word `w` fields further exceeds it or does not exist. -/
def Inv (a : EReal) (w : ℕ) (f : BitVec 32) : Prop :=
  ∃ t : ℕ, f = BitVec.ofNat 32 t ∧ t + w ≤ 256 ∧ pw t ≤ a ∧ (t + w = 256 ∨ a < pw (t + w))

theorem step_inv {a : EReal} {w : ℕ} {f : BitVec 32} (hw : 0 < w) (h : Inv a (w + w) f) : Inv a w (step a (BitVec.ofNat 32 w) f) := by
  obtain ⟨t, rfl, h1, h2, h3⟩ := h
  have hs := shl_field ⟨t + w, by omega⟩
  simp only at hs
  have ha : IntOp.addi (BitVec.ofNat 32 t) (BitVec.ofNat 32 w) = BitVec.ofNat 32 (t + w) := (BitVec.ofNat_add t w).symm
  unfold step
  rw [ha, hs]
  split
  · next hlt => exact ⟨t, rfl, by omega, h2, Or.inr hlt⟩
  · next hge =>
    refine ⟨t + w, rfl, by omega, not_lt.mp hge, ?_⟩
    rw [Nat.add_assoc]; exact h3

theorem field_inv {a : EReal} (ha : 0 ≤ a) : Inv a 1 (field a) := by
  have h0 : Inv a 256 0#32 := ⟨0, rfl, by omega, by rw [pw_zero]; exact ha, Or.inl rfl⟩
  exact step_inv (by omega) (step_inv (by omega) (step_inv (by omega) (step_inv (by omega) (step_inv (by omega) (step_inv (by omega)
    (step_inv (by omega) (step_inv (w := 128) (by omega) h0)))))))

/-! ## The reference's count -/

theorem card_lt : ∀ n : Fin 255, (Finset.univ.filter fun k : Fin 254 => k.val < n.val).card = n.val := by decide +kernel

theorem sum_lt (n : ℕ) (hn : n ≤ 254) : (∑ k : Fin 254, if k.val < n then (1 : EReal) else 0) = ((n : ℝ) : EReal) := by
  rw [Finset.sum_boole, card_lt ⟨n, by omega⟩]
  rfl

/-- The magnitude, as both programs take it. -/
abbrev mag (a : EReal) : EReal := max a (-a)

theorem mag_nonneg (a : EReal) : 0 ≤ mag a := by
  rcases le_total 0 a with h | h
  · exact le_max_of_le_left h
  · exact le_max_of_le_right (EReal.neg_nonneg.mpr h)

/-- The field the bisection returns, as a number. -/
theorem field_spec (a : EReal) (ha : 0 ≤ a) :
    ∃ t : ℕ, field a = BitVec.ofNat 32 t ∧ t < 256 ∧ pw t ≤ a ∧ (t = 255 ∨ a < pw (t + 1)) := by
  obtain ⟨t, h1, h2, h3, h4⟩ := field_inv ha
  exact ⟨t, h1, by omega, h3, h4.imp_left fun h => by omega⟩

/-- How many of the powers `2⁻¹²⁶ … 2¹²⁷` do not exceed `a`, counted as the reference counts them. -/
def below (a : EReal) : EReal :=
  ∑ k : Fin 254, if Ideal.exp2 (((IntOp.subi (BitVec.ofNat 32 k.val) 126#32).toInt : ℝ) : EReal) ≤ a then 1 else 0

theorem sub_toInt : ∀ k : Fin 254, (IntOp.subi (BitVec.ofNat 32 k.val) 126#32).toInt = (k.val : ℤ) - 126 := by decide +kernel

theorem power_eq (k : Fin 254) : Ideal.exp2 (((IntOp.subi (BitVec.ofNat 32 k.val) 126#32).toInt : ℝ) : EReal) = pw (k.val + 1) := by
  rw [sub_toInt, ← exp2_eq_pw (k.val + 1) (by omega) (by omega)]
  congr 2
  push_cast
  ring

/-- The count is the field, but for the last field, which no power of the count reaches. -/
theorem below_eq {a : EReal} {t : ℕ} (ht : t < 256) (h1 : pw t ≤ a) (h2 : t = 255 ∨ a < pw (t + 1)) :
    below a = ((min t 254 : ℕ) : ℝ) := by
  unfold below
  rw [← sum_lt (min t 254) (by omega)]
  refine Finset.sum_congr rfl fun k _ => ?_
  rw [power_eq]
  have hk := k.isLt
  by_cases h : k.val < min t 254
  · rw [if_pos h, if_pos ((pw_mono (by omega) ht).trans h1)]
  · rw [if_neg h, if_neg]
    rcases h2 with rfl | h2
    · omega
    · exact not_le.mpr (h2.trans_le (pw_mono (by omega) (by omega)))

/-! ## The two scales -/

/-- The exponent as the kernel takes it from the field `f`; `z` says that the row is zero. -/
def kexp (z : Bool) (f : BitVec 32) : BitVec 32 :=
  if z then 0#32 else Scalar.select (IntOp.ori (IntOp.cmpi .eq f 0#32) (IntOp.cmpi .eq f 255#32)) 0#32 (IntOp.subi f 126#32)

/-- The biased exponent of the scale. -/
def biased (z : Bool) (t : ℕ) : ℕ := if z then 127 else if t = 0 ∨ t = 255 then 127 else t + 1

theorem up_word : ∀ (z : Bool) (t : Fin 256),
    (IntOp.cmpi .sge (IntOp.addi 127#32 (kexp z (BitVec.ofNat 32 t.val))) 255#32 = 1#1 ∧ biased z t.val = 255)
    ∨ (IntOp.cmpi .sge (IntOp.addi 127#32 (kexp z (BitVec.ofNat 32 t.val))) 255#32 = 0#1
      ∧ IntOp.shli ArithUnit.vector (IntOp.addi 127#32 (kexp z (BitVec.ofNat 32 t.val))) 23#32 = BitVec.ofNat 32 (biased z t.val * 2 ^ 23)) := by
  decide +kernel

theorem down_word : ∀ (z : Bool) (t : Fin 256),
    (IntOp.cmpi .sle (IntOp.subi 127#32 (kexp z (BitVec.ofNat 32 t.val))) 0#32 = 1#1 ∧ 254 - biased z t.val = 0)
    ∨ (IntOp.cmpi .sle (IntOp.subi 127#32 (kexp z (BitVec.ofNat 32 t.val))) 0#32 = 0#1
      ∧ IntOp.shli ArithUnit.vector (IntOp.subi 127#32 (kexp z (BitVec.ofNat 32 t.val))) 23#32 = BitVec.ofNat 32 ((254 - biased z t.val) * 2 ^ 23)) := by
  decide +kernel

theorem inf_word : Ideal.ofBits .f32 0x7F800000#32 = ⊤ := pw_top

/-- The kernel's scale from its exponent `e`, and the inverse. -/
def kup (e : BitVec 32) : EReal :=
  Scalar.select (IntOp.cmpi .sge (IntOp.addi 127#32 e) 255#32) (Ideal.ofBits .f32 0x7F800000#32)
    (Ideal.ofBits .f32 (IntOp.shli ArithUnit.vector (IntOp.addi 127#32 e) 23#32))
def kdown (e : BitVec 32) : EReal :=
  Scalar.select (IntOp.cmpi .sle (IntOp.subi 127#32 e) 0#32) 0
    (Ideal.ofBits .f32 (IntOp.shli ArithUnit.vector (IntOp.subi 127#32 e) 23#32))

theorem select_one (a b : EReal) : Scalar.select 1#1 a b = a := rfl
theorem select_zero (a b : EReal) : Scalar.select 0#1 a b = b := rfl

theorem kup_eq (z : Bool) (t : ℕ) (ht : t < 256) : kup (kexp z (BitVec.ofNat 32 t)) = pw (biased z t) := by
  unfold kup
  rcases up_word z ⟨t, ht⟩ with ⟨h1, h2⟩ | ⟨h1, h2⟩ <;> simp only at h1 h2 <;> rw [h1]
  · rw [h2, pw_top, select_one, inf_word]
  · rw [h2, select_zero, pw]

theorem kdown_eq (z : Bool) (t : ℕ) (ht : t < 256) : kdown (kexp z (BitVec.ofNat 32 t)) = pw (254 - biased z t) := by
  unfold kdown
  rcases down_word z ⟨t, ht⟩ with ⟨h1, h2⟩ | ⟨h1, h2⟩ <;> simp only at h1 h2 <;> rw [h1]
  · rw [h2, pw_zero, select_one]
  · rw [h2, select_zero, pw]

theorem word_126 : Ideal.ofBits .f32 0x42FC0000#32 = ((126 : ℝ) : EReal) := by simp [Ideal.ofBits, Ideal.ieee, -EReal.coe_mul, -EReal.coe_neg]; norm_num
theorem word_127 : Ideal.ofBits .f32 0x42FE0000#32 = ((127 : ℝ) : EReal) := by simp [Ideal.ofBits, Ideal.ieee, -EReal.coe_mul, -EReal.coe_neg]; norm_num
theorem word_neg126 : Ideal.ofBits .f32 0xC2FC0000#32 = ((-126 : ℝ) : EReal) := by simp [Ideal.ofBits, Ideal.ieee, -EReal.coe_mul, -EReal.coe_neg]; norm_num

/-- The reference's exponent from the row's magnitude `am` and the scaled one's, `a`. -/
def rexp (am a : EReal) : EReal :=
  if am = 0 then 0
  else Scalar.select (IntOp.ori (BitVec.ofBool (decide (below a = 0))) (BitVec.ofBool (decide (a = Ideal.ofBits .f32 0x7F800000#32)))) 0
    (below a - Ideal.ofBits .f32 0x42FC0000#32)

/-- The reference's power of two, saturated at the ends of the format. -/
def rpow (e : EReal) : EReal :=
  if Ideal.ofBits .f32 0x42FE0000#32 < e then Ideal.ofBits .f32 0x7F800000#32
  else if e < Ideal.ofBits .f32 0xC2FC0000#32 then 0 else Ideal.exp2 e

theorem rexp_eq {am a : EReal} {t : ℕ} (ht : t < 256) (h1 : pw t ≤ a) (h2 : t = 255 ∨ a < pw (t + 1)) :
    rexp am a = (((biased (decide (am = 0)) t : ℕ) : ℝ) - 127 : ℝ) := by
  unfold rexp biased
  rw [below_eq ht h1 h2, inf_word, word_126]
  by_cases hz : am = 0
  · simp [hz]
  have htop : a = ⊤ ↔ t = 255 := by
    constructor
    · intro h
      rcases h2 with h2 | h2
      · exact h2
      · rw [h] at h2; exact absurd h2 not_top_lt
    · rintro rfl
      rw [pw_top] at h1; exact top_le_iff.mp h1
  have hzero : (((min t 254 : ℕ) : ℝ) : EReal) = 0 ↔ t = 0 := by
    rw [EReal.coe_eq_zero, Nat.cast_eq_zero]; omega
  simp only [hz, if_false, htop, hzero, decide_false, Bool.false_eq_true]
  by_cases h0 : t = 0
  · simp [h0, Scalar.select, IntOp.ori]
  by_cases h5 : t = 255
  · simp [h5, Scalar.select, IntOp.ori]
  · rw [show min t 254 = t by omega]
    simp only [h0, h5, Scalar.select, IntOp.ori, decide_false, or_self, if_false]
    show ((t : ℝ) : EReal) - ((126 : ℝ) : EReal) = _
    rw [← EReal.coe_sub]
    congr 1
    push_cast
    ring

theorem biased_range (z : Bool) (t : ℕ) (ht : t < 256) : 2 ≤ biased z t ∧ biased z t ≤ 255 := by
  unfold biased; split
  · omega
  split <;> omega

theorem rpow_of (e : ℤ) (n : ℕ) (hn : n < 256) (h : (n : ℤ) = e + 127 ∨ (e < -126 ∧ n = 0)) (h0 : n = 0 → e < -126) :
    rpow ((e : ℝ) : EReal) = pw n := by
  unfold rpow
  rw [word_127, word_neg126, inf_word]
  simp only [EReal.coe_lt_coe_iff]
  have c1 : ((127 : ℝ) < (e : ℝ)) ↔ 127 < e := by exact_mod_cast Iff.rfl
  have c2 : ((e : ℝ) < (-126 : ℝ)) ↔ e < -126 := by exact_mod_cast Iff.rfl
  simp only [c1, c2]
  by_cases hhi : 127 < e
  · rw [if_pos hhi, show n = 255 by omega, pw_top]
  rw [if_neg hhi]
  by_cases hlo : e < -126
  · rw [if_pos hlo, show n = 0 by omega, pw_zero]
  · rw [if_neg hlo, ← exp2_eq_pw n (by omega) (by omega)]
    congr 2
    have : (n : ℤ) = e + 127 := by omega
    have : ((n : ℤ) : ℝ) = ((e + 127 : ℤ) : ℝ) := by rw [this]
    push_cast at this
    linarith

/-- THE SCALE: the kernel's, from its bisection, is the reference's, from its count. -/
theorem scale_eq (am a : EReal) (ha : 0 ≤ a) : kup (kexp (decide (am = 0)) (field a)) = rpow (rexp am a) := by
  obtain ⟨t, hf, ht, h1, h2⟩ := field_spec a ha
  have hr := biased_range (decide (am = 0)) t ht
  rw [hf, kup_eq _ t ht, rexp_eq ht h1 h2]
  have : ((((biased (decide (am = 0)) t : ℕ) : ℝ) - 127 : ℝ)) = ((((biased (decide (am = 0)) t : ℕ) : ℤ) - 127 : ℤ) : ℝ) := by push_cast; ring
  rw [this]
  exact (rpow_of _ _ (by omega) (by omega) (by omega)).symm

/-- THE INVERSE SCALE, likewise. -/
theorem inverse_eq (am a : EReal) (ha : 0 ≤ a) : kdown (kexp (decide (am = 0)) (field a)) = rpow (0 - rexp am a) := by
  obtain ⟨t, hf, ht, h1, h2⟩ := field_spec a ha
  have hr := biased_range (decide (am = 0)) t ht
  rw [hf, kdown_eq _ t ht, rexp_eq ht h1 h2]
  have : (0 : EReal) - (((((biased (decide (am = 0)) t : ℕ) : ℝ) - 127 : ℝ)) : EReal)
      = ((((127 - (biased (decide (am = 0)) t : ℕ) : ℤ) : ℤ) : ℝ) : EReal) := by
    rw [← EReal.coe_zero, ← EReal.coe_sub]; congr 1; push_cast; ring
  rw [this]
  exact (rpow_of _ _ (by omega) (by omega) (by omega)).symm

end Cert.Proof.Exponent
-- ==== Proof.Spec.lean ====
/-
  What one row of the activations is turned into, on the extended reals: the functions of a row that both programs are read
  as. The sums, the maximum and the products are written over the row's own coordinates, and the exponent is the reference's
  (Proof/Exponent.lean `rexp`, `rpow`).
-/
module

public import proofs.«01_k».proof.Proof.Exponent

@[expose] public section

set_option maxRecDepth 16384

noncomputable section

namespace Cert.Proof.Spec

open Idealize.ShloMosaic Cert.Proof.Exponent

/-- The row `x` by its root mean square, times the gain. -/
def normed (x g : Fin 7168 → EReal) (j : Fin 7168) : EReal :=
  x j * Ideal.rsqrt (Ideal.div (∑ k, x k * x k) (Ideal.ofBits .f32 0x45E00000#32) + Ideal.ofBits .f32 0x358637BD#32) * g j

/-- The row's greatest magnitude. -/
def top (h : Fin 7168 → EReal) : EReal :=
  Finset.fold max (Ideal.ofBits .f32 0xFF800000#32) (fun k => mag (h k)) Finset.univ

/-- The row's exponent. -/
def expo (h : Fin 7168 → EReal) : EReal := rexp (top h) (mag (top h * Ideal.ofBits .f32 0x3B124925#32))

/-- The row's scale. -/
def scale (h : Fin 7168 → EReal) : EReal := rpow (expo h)

/-- The row's codes: by the inverse scale, clipped to the format's range. -/
def code (h : Fin 7168 → EReal) (j : Fin 7168) : EReal :=
  min (Ideal.ofBits .f32 0x43E00000#32) (max (Ideal.ofBits .f32 0xC3E00000#32) (h j * rpow (0 - expo h)))

/-- One projection of the row's codes, with the row's and the weight row's scales. -/
def proj (h w : Fin 7168 → EReal) (ws : EReal) : EReal := (∑ k, code h k * w k) * scale h * ws

/-- The rotation's angle of lane `l` at position `p`. -/
def angle (p : BitVec 32) (l : Fin 64) : EReal :=
  ((p.toInt : ℝ) : EReal) * Ideal.pow (Ideal.ofBits .f32 0x461C4000#32)
    (Ideal.div (0 - (((IntOp.muli 2#32 (BitVec.ofNat 32 l.val)).toInt : ℝ) : EReal)) (Ideal.ofBits .f32 0x43000000#32))

/-- A head `y` rotated by its position. -/
def rope (y : Fin 128 → EReal) (p : BitVec 32) (l : Fin 128) : EReal :=
  if h : l.val < 64 then y ⟨l.val, by omega⟩ * Ideal.cos (angle p ⟨l.val, h⟩) - y ⟨64 + l.val, by omega⟩ * Ideal.sin (angle p ⟨l.val, h⟩)
  else y ⟨64 + (l.val - 64), by omega⟩ * Ideal.cos (angle p ⟨l.val - 64, by omega⟩)
    + y ⟨l.val - 64, by omega⟩ * Ideal.sin (angle p ⟨l.val - 64, by omega⟩)

/-- The kernel's form of the rotation: the whole head by the cosine, the head turned by half its lanes by the signed sine. -/
theorem rope_of (y : Fin 128 → EReal) (p : BitVec 32) (l : Fin 128) (a : EReal) (b : BitVec 1) (r : Fin 128)
    (ha : a = angle p ⟨l.val % 64, by omega⟩) (hr : r.val = (l.val + 64) % 128) (hb : b = BitVec.ofBool (decide (l.val < 64))) :
    y l * Ideal.cos a + y r * Scalar.select b (0 - Ideal.sin a) (Ideal.sin a) = rope y p l := by
  subst ha hb
  unfold rope
  by_cases h : l.val < 64
  · rw [dif_pos h]
    have e1 : l.val % 64 = l.val := Nat.mod_eq_of_lt h
    have e2 : r = ⟨64 + l.val, by omega⟩ := Fin.ext (by rw [hr]; show _ = 64 + l.val; omega)
    simp only [e1, e2, h, decide_true]
    show _ + _ * (0 - Ideal.sin _) = _
    rw [zero_sub, mul_neg, ← sub_eq_add_neg]
  · rw [dif_neg h]
    have e1 : l.val % 64 = l.val - 64 := by omega
    have e2 : r = ⟨l.val - 64, by omega⟩ := Fin.ext (by rw [hr]; show _ = l.val - 64; omega)
    have e3 : l = ⟨64 + (l.val - 64), by omega⟩ := Fin.ext (by show _ = 64 + (l.val - 64); omega)
    simp only [e1, e2, h, decide_false]
    show y l * _ + _ * Ideal.sin _ = _
    rw [← e3]

/-- The row's fused projection. -/
def qkv (x g : Fin 7168 → EReal) (w : Fin 2304 → Fin 7168 → EReal) (ws : Fin 2304 → EReal) (j : Fin 2304) : EReal :=
  proj (normed x g) (w j) (ws j)

/-- The row's query heads. -/
def qRow (x g : Fin 7168 → EReal) (w : Fin 2304 → Fin 7168 → EReal) (ws : Fin 2304 → EReal) (p : BitVec 32) (h : Fin 14)
    (l : Fin 128) : EReal :=
  rope (fun k => qkv x g w ws ⟨h.val * 128 + k.val, by omega⟩) p l

/-- The row's key heads. -/
def kRow (x g : Fin 7168 → EReal) (w : Fin 2304 → Fin 7168 → EReal) (ws : Fin 2304 → EReal) (p : BitVec 32) (h : Fin 2)
    (l : Fin 128) : EReal :=
  rope (fun k => qkv x g w ws ⟨1792 + (h.val * 128 + k.val), by omega⟩) p l

/-- The row's value heads. -/
def vRow (x g : Fin 7168 → EReal) (w : Fin 2304 → Fin 7168 → EReal) (ws : Fin 2304 → EReal) (h : Fin 2) (l : Fin 128) : EReal :=
  qkv x g w ws ⟨2048 + (h.val * 128 + l.val), by omega⟩

end Cert.Proof.Spec
-- ==== Proof.KernelRow.lean ====
/-
  The kernel's values at one index of a tile of 256 rows, as the functions of the row (Proof/Spec.lean): the norm, the row's
  maximum, the exponent by bisection, the scale, the codes, the projections and the rotation of one head.
-/
module

public import proofs.«01_k».proof.Proof.Gen.KernelIdeal.Frame
public import proofs.«01_k».proof.Proof.Spec

@[expose] public section

set_option maxRecDepth 16384

noncomputable section

namespace Cert.Proof.KernelRow

open Idealize.ShloMosaic Cert.KernelIdeal Cert.KernelIdeal.Gen Cert.Proof.Exponent Cert.Proof.Spec

/-- The row maxima of a tile, as a column. -/
def rowMax (h : FVec Ideal S256x7168 .f32) : FVec Ideal S256x1 .f32 :=
  shapeCast S256x1 (multiReduction .maximumf [1] S256 (absf h) 0xFF800000#32 reduces_S256x7168_S256 (.inl rfl) rfl) shapeCasts_S256_S256x1

/-- The column that the exponent is taken of. -/
def scaled (am : FVec Ideal S256x1 .f32) : FVec Ideal S256x1 .f32 := mulf am (broadcast S256x1 (Scalar.ofBits .f32 0x3B124925#32))

/-- One step of the bisection on a column. -/
def stepV (x : FVec Ideal S256x1 .f32) (n : BitVec 32) (f : IVec S256x1 32) : IVec S256x1 32 :=
  select (cmpf .olt (absf x) (bitcastToFloat .f32 (shli (addi f (broadcast S256x1 n)) (broadcast S256x1 23#32)))) f
    (addi f (broadcast S256x1 n))

/-- The bisection on a column. -/
def fieldV (x : FVec Ideal S256x1 .f32) : IVec S256x1 32 :=
  stepV x 1#32 (stepV x 2#32 (stepV x 4#32 (stepV x 8#32 (stepV x 16#32 (stepV x 32#32 (stepV x 64#32
    (stepV x 128#32 (broadcast S256x1 0#32))))))))

theorem pay4_eq (v0 : Vec Ideal S256x7168 .bf16) (v13 : Vec Ideal S1x7168 .f32) : k0_pay4 v0 v13 = rowMax (k0_pay3 v0 v13) := by
  unfold k0_pay4
  generalize k0_pay3 v0 v13 = h
  rfl

theorem pay5_eq (v0 : Vec Ideal S256x7168 .bf16) (v13 : Vec Ideal S1x7168 .f32) : k0_pay5 v0 v13 = scaled (k0_pay4 v0 v13) := by
  unfold k0_pay5
  generalize k0_pay4 v0 v13 = h
  rfl

theorem pay10_eq (v0 : Vec Ideal S256x7168 .bf16) (v13 : Vec Ideal S1x7168 .f32) :
    k0_pay10 (k0_pay5 v0 v13) (k0_pay6 v0 v13) (k0_pay7 v0 v13) (k0_pay8 v0 v13) k0_pay9 = fieldV (k0_pay5 v0 v13) := by
  unfold k0_pay10 k0_pay7 k0_pay8 k0_pay9 k0_pay6
  generalize k0_pay5 v0 v13 = x
  rfl

theorem normed_apply (v0 : Vec Ideal S256x7168 .bf16) (v13 : Vec Ideal S1x7168 .f32) (i : Fin 256) (j : Fin 7168) :
    k0_pay3 v0 v13 (ix2 i j) = normed (fun k => v0 (ix2 i k)) (fun k => v13 (ix2 0 k)) j := by
  pointwise [k0_pay3]
  rfl

theorem rowMax_apply (h : FVec Ideal S256x7168 .f32) (i : Fin 256) (j : Fin 1) : rowMax h (ix2 i j) = top (fun k => h (ix2 i k)) := by
  pointwise [rowMax]
  rfl

theorem scaled_apply (am : FVec Ideal S256x1 .f32) (i : Fin 256) (j : Fin 1) :
    scaled am (ix2 i j) = am (ix2 i j) * Ideal.ofBits .f32 0x3B124925#32 := by
  pointwise [scaled]

theorem stepV_apply (x : FVec Ideal S256x1 .f32) (n : BitVec 32) (f : IVec S256x1 32) (i : S256x1.Idx) :
    stepV x n f i = step (mag (x i)) n (f i) := by
  pointwise [stepV, step]
  rfl

theorem fieldV_apply (x : FVec Ideal S256x1 .f32) (i : S256x1.Idx) : fieldV x i = field (mag (x i)) := by
  unfold fieldV field
  simp only [stepV_apply]
  rfl

/-- The exponent's column. -/
theorem expo_apply (am : FVec Ideal S256x1 .f32) (f : IVec S256x1 32) (i : S256x1.Idx) :
    k0_pay13 am f (cmpi .eq f (broadcast S256x1 0#32)) (cmpi .eq f (broadcast S256x1 255#32)) i = kexp (decide (am i = 0)) (f i) := by
  pointwise [k0_pay13]
  unfold kexp
  by_cases h : am i = 0 <;> simp [h]

theorem scale_apply (am : FVec Ideal S256x1 .f32) (f : IVec S256x1 32) (b c : IVec S256x1 1) (i : S256x1.Idx) :
    k0_pay14 am f b c i = kup (k0_pay13 am f b c i) := by
  pointwise [k0_pay14, kup]

theorem code_apply (v16 : FVec Ideal S256x7168 .f32) (am : FVec Ideal S256x1 .f32) (f : IVec S256x1 32) (b c : IVec S256x1 1)
    (i : Fin 256) (j : Fin 7168) :
    k0_pay15 v16 am f b c (ix2 i j) = min (Ideal.ofBits .f32 0x43E00000#32) (max (Ideal.ofBits .f32 0xC3E00000#32)
      (v16 (ix2 i j) * kdown (k0_pay13 am f b c (ix2 i 0)))) := by
  pointwise [k0_pay15, kdown]

theorem proj_apply (s : FVec Ideal S256x1 .f32) (q : FVec Ideal S256x7168 .fp8e4m3) (w : Vec Ideal S2304x7168 .fp8e4m3)
    (ws : Vec Ideal S1x2304 .f32) (i : Fin 256) (j : Fin 2304) :
    k0_pay16 s q w ws (ix2 i j) = (∑ k : Fin 7168, q (ix2 i k) * w (ix2 j k)) * s (ix2 i 0) * ws (ix2 0 j) := by
  pointwise [k0_pay16]

end Cert.Proof.KernelRow
-- ==== Proof.KernelTile.lean ====
/-
  What the kernel leaves in its windows' staging buffers after one tile of 256 rows, read at an index: the functions of the row
  (Proof/Spec.lean).
-/
module

public import proofs.«01_k».proof.Proof.KernelRow

@[expose] public section

set_option maxRecDepth 16384

noncomputable section

namespace Cert.Proof.KernelRow

open Idealize.ShloMosaic Cert.KernelIdeal Cert.KernelIdeal.Gen Cert.Proof.Exponent Cert.Proof.Spec

/-! ## The rotation -/

/-- One head, rotated. -/
def turn (z c s : FVec Ideal S256x128 .f32) : FVec Ideal S256x128 .bf16 :=
  truncf .bf16 (addf (mulf z c) (mulf (dynamicRotate 1 64#32 none z rotates_S256x128_d1) s)) bitsLt_bf16_f32

theorem turn_apply (z c s : FVec Ideal S256x128 .f32) (i : Fin 256) (j : Fin 128) :
    turn z c s (ix2 i j) = z (ix2 i j) * c (ix2 i j) + z (ix2 i ⟨(j.val + 128 - 64) % 128, by omega⟩) * s (ix2 i j) := by
  pointwise [turn]

/-- The frequency index of a lane is the lane's remainder by the number of frequencies, twice. -/
theorem lane_word : ∀ j : Fin 128,
    (let w := BitVec.ofNat 32 j.val
     let n := Scalar.select (Scalar.cmpi .eq 64#32 0#32) 1#32 64#32
     let r := IntOp.remsi ArithUnit.vector w n
     Scalar.select (IntOp.andi (IntOp.xori (IntOp.cmpi .slt r 0#32) (Scalar.cmpi .slt n 0#32)) (IntOp.cmpi .ne r 0#32)) (IntOp.addi r n) r) = BitVec.ofNat 32 (j.val % 64) := by
  decide +kernel

theorem two_mul_word : ∀ j : Fin 64, (IntOp.muli 2#32 (BitVec.ofNat 32 j.val)).toInt = 2 * (BitVec.ofNat 32 j.val).toInt := by
  decide +kernel

theorem word_two : Ideal.ofBits .f32 1073741824#32 = ((2 : ℝ) : EReal) := by
  simp [Ideal.ofBits, Ideal.ieee, -EReal.coe_mul, -EReal.coe_neg]; norm_num

theorem angle_apply (p : Vec Ideal S256x1 .i32) (i : Fin 256) (j : Fin 128) :
    k0_pay17 p (ix2 i j) = angle (p (ix2 i 0)) ⟨j.val % 64, by omega⟩ := by
  pointwise [k0_pay17]
  have hw := lane_word j
  dsimp only at hw
  rw [hw]
  unfold angle
  have h2 : Ideal.ofBits .f32 1073741824#32 * FloatOps.sitofp (F := Ideal) .f32 (BitVec.ofNat 32 (j.val % 64))
      = (((IntOp.muli 2#32 (BitVec.ofNat 32 (j.val % 64))).toInt : ℝ) : EReal) := by
    rw [two_mul_word ⟨j.val % 64, by omega⟩, word_two]
    show ((2 : ℝ) : EReal) * (((BitVec.ofNat 32 (j.val % 64)).toInt : ℝ) : EReal) = _
    rw [← EReal.coe_mul]
    norm_num
  rw [h2]
  rfl

theorem cos_apply (p : Vec Ideal S256x1 .i32) (i : Fin 256) (j : Fin 128) :
    k0_pay18 p (ix2 i j) = Ideal.cos (angle (p (ix2 i 0)) ⟨j.val % 64, by omega⟩) := by
  unfold k0_pay18
  rw [← angle_apply]
  rfl

theorem sin_apply (io : IVec S1x128 32) (a : FVec Ideal S256x128 .f32) (i : Fin 256) (j : Fin 128) :
    k0_pay19 io a (ix2 i j)
      = Scalar.select (IntOp.cmpi .slt (io (ix2 0 j)) 64#32) (0 - Ideal.sin (a (ix2 i j))) (Ideal.sin (a (ix2 i j))) := by
  pointwise [k0_pay19]

theorem lane_slt : ∀ j : Fin 128, IntOp.cmpi .slt (BitVec.ofNat 32 j.val) 64#32 = BitVec.ofBool (decide (j.val < 64)) := by
  decide +kernel

theorem iota_apply (j : Fin 128) : iota .tc S1x128 32 [1] iota_S1x128_d1_w32 (ix2 0 j) = BitVec.ofNat 32 j.val := by
  pointwise []

/-- A head of the tile's projection `y`, rotated by the tile's positions. -/
theorem head_apply (z : FVec Ideal S256x128 .f32) (p : Vec Ideal S256x1 .i32) (i : Fin 256) (j : Fin 128) :
    turn z (k0_pay18 p) (k0_pay19 (iota .tc S1x128 32 [1] iota_S1x128_d1_w32) (k0_pay17 p)) (ix2 i j)
      = rope (fun k => z (ix2 i k)) (p (ix2 i 0)) j := by
  rw [turn_apply, cos_apply, sin_apply, iota_apply, angle_apply]
  exact rope_of (fun k => z (ix2 i k)) _ j _ _ ⟨(j.val + 128 - 64) % 128, by omega⟩ rfl (by show (j.val + 128 - 64) % 128 = (j.val + 64) % 128; rfl)
    (lane_slt j)

theorem slice_apply (off : ℕ) (hs : S256x2304.Slices ![0, off] S256x128) (h : off + 128 ≤ 2304) (y : FVec Ideal S256x2304 .f32)
    (i : Fin 256) (j : Fin 128) :
    extractStridedSlice S256x128 ![0, off] y hs (ix2 i j) = y (ix2 i ⟨off + j.val, by omega⟩) := by
  pointwise []

/-- The head at a lane offset `off` of the projection. -/
theorem head_tile (off : ℕ) (hs : S256x2304.Slices ![0, off] S256x128) (h : off + 128 ≤ 2304)
    (y : FVec Ideal S256x2304 .f32) (p : Vec Ideal S256x1 .i32) (x : S256x128.Idx) :
    turn (extractStridedSlice S256x128 ![0, off] y hs) (k0_pay18 p) (k0_pay19 (iota .tc S1x128 32 [1] iota_S1x128_d1_w32) (k0_pay17 p)) x
      = rope (fun k => y (ix2 (x 0) ⟨off + k.val, by omega⟩)) (p (ix2 (x 0) 0)) (x 1) := by
  obtain ⟨i, j, rfl⟩ : ∃ (i : Fin 256) (j : Fin 128), x = ix2 i j := ⟨x 0, x 1, by funext a; fin_cases a <;> rfl⟩
  rw [head_apply]
  congr 1
  funext k
  exact slice_apply off hs h y i k

end Cert.Proof.KernelRow
-- ==== Proof.KernelOut.lean ====
/-
  What the kernel leaves in its windows' staging buffers after one tile of 256 rows, as the functions of the tile's rows
  (Proof/Spec.lean).
-/
module

public import proofs.«01_k».proof.Proof.KernelTile
public import Idealize.ShloMosaic.Lib.Pipeline.ValueKit.Tiles

@[expose] public section

set_option maxRecDepth 16384

noncomputable section

namespace Cert.Proof.KernelRow

open Idealize.ShloMosaic Cert.KernelIdeal Cert.KernelIdeal.Gen Cert.Proof.Exponent Cert.Proof.Spec

variable (x0 : Vec Ideal S256x7168 .bf16) (x1 : Vec Ideal S1x7168 .f32) (x2 : Vec Ideal S2304x7168 .fp8e4m3) (x3 : Vec Ideal S1x2304 .f32)
  (x4 : Vec Ideal S256x1 .i32)

theorem hz : (![0, 0] : Fin 2 → Nat) = fun _ => 0 := funext fun a => by fin_cases a <;> rfl

/-- The tile's row `i`, the gain, the weights, their scales. -/
abbrev X (i : Fin 256) : Fin 7168 → EReal := fun k => x0 (ix2 i k)
abbrev G : Fin 7168 → EReal := fun k => x1 (ix2 0 k)
abbrev Wt : Fin 2304 → Fin 7168 → EReal := fun j k => x2 (ix2 j k)
abbrev Ws : Fin 2304 → EReal := fun j => x3 (ix2 0 j)

/-! ## The values the body binds -/

theorem pay41_eq : k0_pay41 x0 x1 x2 x3 x4 = k0_pay3 x0 x1 := by
  unfold k0_pay41
  rw [View.ld_unit_zero hz, View.ld_unit_zero hz]

theorem pay42_eq : k0_pay42 x0 x1 x2 x3 x4 = rowMax (k0_pay3 x0 x1) := by
  unfold k0_pay42
  rw [View.ld_unit_zero hz, View.ld_unit_zero hz, pay4_eq]

theorem pay48_eq : k0_pay48 x0 x1 x2 x3 x4 = fieldV (scaled (rowMax (k0_pay3 x0 x1))) := by
  unfold k0_pay48 k0_pay43 k0_pay44 k0_pay45 k0_pay46 k0_pay47
  rw [View.ld_unit_zero hz, View.ld_unit_zero hz, pay10_eq, pay5_eq, pay4_eq]

theorem pay49_eq : k0_pay49 x0 x1 x2 x3 x4 = cmpi .eq (fieldV (scaled (rowMax (k0_pay3 x0 x1)))) (broadcast S256x1 0#32) := by
  rw [← pay48_eq x0 x1 x2 x3 x4]
  unfold k0_pay49 k0_pay48 k0_pay11
  rfl

theorem pay50_eq : k0_pay50 x0 x1 x2 x3 x4 = cmpi .eq (fieldV (scaled (rowMax (k0_pay3 x0 x1)))) (broadcast S256x1 255#32) := by
  rw [← pay48_eq x0 x1 x2 x3 x4]
  unfold k0_pay50 k0_pay48 k0_pay12
  rfl

theorem row_eq (i : Fin 256) : (fun k => k0_pay3 x0 x1 (ix2 i k)) = normed (X x0 i) (G x1) := by
  funext k
  exact normed_apply x0 x1 i k

/-- The exponent's word. -/
theorem expo_at (i : Fin 256) (j : Fin 1) :
    k0_pay13 (k0_pay42 x0 x1 x2 x3 x4) (k0_pay48 x0 x1 x2 x3 x4) (k0_pay49 x0 x1 x2 x3 x4) (k0_pay50 x0 x1 x2 x3 x4) (ix2 i j)
      = kexp (decide (top (normed (X x0 i) (G x1)) = 0)) (field (mag (top (normed (X x0 i) (G x1)) * Ideal.ofBits .f32 0x3B124925#32))) := by
  rw [pay42_eq, pay48_eq, pay49_eq, pay50_eq, expo_apply, fieldV_apply, scaled_apply, rowMax_apply, row_eq]

theorem scale_at (i : Fin 256) (j : Fin 1) : k0_pay51 x0 x1 x2 x3 x4 (ix2 i j) = scale (normed (X x0 i) (G x1)) := by
  unfold k0_pay51
  rw [scale_apply, expo_at]
  exact scale_eq _ _ (mag_nonneg _)

theorem code_at (i : Fin 256) (j : Fin 7168) :
    k0_pay15 (k0_pay41 x0 x1 x2 x3 x4) (k0_pay42 x0 x1 x2 x3 x4) (k0_pay48 x0 x1 x2 x3 x4) (k0_pay49 x0 x1 x2 x3 x4)
      (k0_pay50 x0 x1 x2 x3 x4) (ix2 i j) = code (normed (X x0 i) (G x1)) j := by
  rw [code_apply, expo_at, inverse_eq _ _ (mag_nonneg _), pay41_eq, normed_apply]
  rfl

theorem qkv_at (i : Fin 256) (j : Fin 2304) :
    k0_pay53 x0 x1 x2 x3 x4 (ix2 i j) = qkv (X x0 i) (G x1) (Wt x2) (Ws x3) j := by
  unfold k0_pay53
  rw [proj_apply, scale_at, View.ld_unit_zero hz, View.ld_unit_zero hz]
  unfold qkv proj
  congr 2
  exact Finset.sum_congr rfl fun k _ => by rw [code_at]

theorem pay55_eq : k0_pay55 x0 x1 x2 x3 x4 = k0_pay18 x4 := by
  unfold k0_pay55
  rw [View.ld_unit_zero hz]

theorem pay56_eq : k0_pay56 x0 x1 x2 x3 x4 = k0_pay19 (iota .tc S1x128 32 [1] iota_S1x128_d1_w32) (k0_pay17 x4) := by
  unfold k0_pay56 k0_pay52 k0_pay54
  rw [View.ld_unit_zero hz]

/-! ## The heads -/

/-- The head at the projection's lane `off`, stored at the window's lane `o`: the rotated head that the window's index holds. -/
theorem head_at (off o base : ℕ) (hs : S256x2304.Slices ![0, off] S256x128) (h : off + 128 ≤ 2304) (hoff : off = base + o) (ho : o % 128 = 0)
    (y : FVec Ideal S256x2304 .f32) (i : Fin 256) (n : ℕ) (hn : base + (n * 128 + 127) < 2304) (l : Fin 128) (x : S256x128.Idx)
    (h0 : i.val = (x 0).val) (h1 : n * 128 + l.val = o + (x 1).val) :
    turn (extractStridedSlice S256x128 ![0, off] y hs) (k0_pay18 x4) (k0_pay19 (iota .tc S1x128 32 [1] iota_S1x128_d1_w32) (k0_pay17 x4)) x
      = rope (fun k => y (ix2 i ⟨base + (n * 128 + k.val), by omega⟩)) (x4 (ix2 i 0)) l := by
  have hx1 : (x 1).val < 128 := (x 1).isLt
  have e0 : x 0 = i := Fin.ext h0.symm
  have e1 : x 1 = l := Fin.ext (by omega)
  have e2 : o = n * 128 := by omega
  rw [head_tile off hs h, e0, e1]
  congr 1
  funext k
  congr 2
  exact Fin.ext (by show off + k.val = base + (n * 128 + k.val); omega)

theorem out5_at (i : Fin 256) (n : Fin 14) (l : Fin 128) :
    out0_5 x0 x1 x2 x3 x4 (ix2 i ⟨n.val * 128 + l.val, by omega⟩) = qRow (X x0 i) (G x1) (Wt x2) (Ws x3) (x4 (ix2 i 0)) n l := by
  have key : ∀ (off : ℕ) (hs : S256x2304.Slices ![0, off] S256x128) (_ : off + 128 ≤ 2304) (_ : off % 128 = 0) (w : FVec Ideal S256x128 .bf16)
      (_ : w = turn (extractStridedSlice S256x128 ![0, off] (k0_pay53 x0 x1 x2 x3 x4) hs) (k0_pay55 x0 x1 x2 x3 x4) (k0_pay56 x0 x1 x2 x3 x4)),
      View.TileAt (Val := Elt Ideal) (e := .bf16) (S := S256x1792) (ix2 i ⟨n.val * 128 + l.val, by omega⟩) ![0, off] S256x128.size w
        (qRow (X x0 i) (G x1) (Wt x2) (Ws x3) (x4 (ix2 i 0)) n l) := by
    intro off hs h ho w hw x hx
    subst hw
    rw [pay55_eq, pay56_eq]
    refine (head_at x4 off off 0 hs h (by omega) ho _ i n.val (by omega) l x ?_ ?_).trans ?_
    · have := hx 0
      simpa using this
    · exact hx 1
    · unfold qRow
      congr 1
      funext k
      rw [qkv_at]
      congr 1
      exact Fin.ext (Nat.zero_add _)
  unfold out0_5
  refine View.canon_eq_of_allAt _ _ _ (cover0_5 _ _ _ _ _ _ _ _ _ _ _ _ _ _ _) ?_
  refine View.allAt_cons_unit _ _ _ _ _ (key 1664 slices_S256x2304_o0_1664_S256x128 (by omega) rfl _ rfl) ?_
  refine View.allAt_cons_unit _ _ _ _ _ (key 1536 slices_S256x2304_o0_1536_S256x128 (by omega) rfl _ rfl) ?_
  refine View.allAt_cons_unit _ _ _ _ _ (key 1408 slices_S256x2304_o0_1408_S256x128 (by omega) rfl _ rfl) ?_
  refine View.allAt_cons_unit _ _ _ _ _ (key 1280 slices_S256x2304_o0_1280_S256x128 (by omega) rfl _ rfl) ?_
  refine View.allAt_cons_unit _ _ _ _ _ (key 1152 slices_S256x2304_o0_1152_S256x128 (by omega) rfl _ rfl) ?_
  refine View.allAt_cons_unit _ _ _ _ _ (key 1024 slices_S256x2304_o0_1024_S256x128 (by omega) rfl _ rfl) ?_
  refine View.allAt_cons_unit _ _ _ _ _ (key 896 slices_S256x2304_o0_896_S256x128 (by omega) rfl _ rfl) ?_
  refine View.allAt_cons_unit _ _ _ _ _ (key 768 slices_S256x2304_o0_768_S256x128 (by omega) rfl _ rfl) ?_
  refine View.allAt_cons_unit _ _ _ _ _ (key 640 slices_S256x2304_o0_640_S256x128 (by omega) rfl _ rfl) ?_
  refine View.allAt_cons_unit _ _ _ _ _ (key 512 slices_S256x2304_o0_512_S256x128 (by omega) rfl _ rfl) ?_
  refine View.allAt_cons_unit _ _ _ _ _ (key 384 slices_S256x2304_o0_384_S256x128 (by omega) rfl _ rfl) ?_
  refine View.allAt_cons_unit _ _ _ _ _ (key 256 slices_S256x2304_o0_256_S256x128 (by omega) rfl _ rfl) ?_
  refine View.allAt_cons_unit _ _ _ _ _ (key 128 slices_S256x2304_o0_128_S256x128 (by omega) rfl _ rfl) ?_
  refine View.allAt_cons_unit _ _ _ _ _ (key 0 slices_S256x2304_o0_0_S256x128 (by omega) rfl _ rfl) ?_
  exact View.allAt_nil _ _

theorem out6_at (i : Fin 256) (n : Fin 2) (l : Fin 128) :
    out0_6 x0 x1 x2 x3 x4 (ix2 i ⟨n.val * 128 + l.val, by omega⟩) = kRow (X x0 i) (G x1) (Wt x2) (Ws x3) (x4 (ix2 i 0)) n l := by
  have key : ∀ (off o : ℕ) (hs : S256x2304.Slices ![0, off] S256x128) (_ : off + 128 ≤ 2304) (_ : o % 128 = 0) (_ : off = 1792 + o)
      (w : FVec Ideal S256x128 .bf16)
      (_ : w = turn (extractStridedSlice S256x128 ![0, off] (k0_pay53 x0 x1 x2 x3 x4) hs) (k0_pay55 x0 x1 x2 x3 x4) (k0_pay56 x0 x1 x2 x3 x4)),
      View.TileAt (Val := Elt Ideal) (e := .bf16) (S := S256x256) (ix2 i ⟨n.val * 128 + l.val, by omega⟩) ![0, o] S256x128.size w
        (kRow (X x0 i) (G x1) (Wt x2) (Ws x3) (x4 (ix2 i 0)) n l) := by
    intro off o hs h ho hoff w hw x hx
    subst hw
    rw [pay55_eq, pay56_eq]
    refine (head_at x4 off o 1792 hs h hoff ho _ i n.val (by omega) l x ?_ ?_).trans ?_
    · have := hx 0
      simpa using this
    · exact hx 1
    · unfold kRow
      congr 1
      funext k
      rw [qkv_at]
  unfold out0_6
  refine View.canon_eq_of_allAt _ _ _ (cover0_6 _ _ _) ?_
  refine View.allAt_cons_unit _ _ _ _ _ (key 1920 128 slices_S256x2304_o0_1920_S256x128 (by omega) rfl rfl _ rfl) ?_
  refine View.allAt_cons_unit _ _ _ _ _ (key 1792 0 slices_S256x2304_o0_1792_S256x128 (by omega) rfl rfl _ rfl) ?_
  exact View.allAt_nil _ _

theorem value_apply (y : FVec Ideal S256x2304 .f32) (i : Fin 256) (j : Fin 256) :
    k0_pay2 y (ix2 i j) = y (ix2 i ⟨2048 + j.val, by omega⟩) := by
  pointwise [k0_pay2]

theorem out7_at (i : Fin 256) (n : Fin 2) (l : Fin 128) :
    out0_7 x0 x1 x2 x3 x4 (ix2 i ⟨n.val * 128 + l.val, by omega⟩) = vRow (X x0 i) (G x1) (Wt x2) (Ws x3) n l := by
  unfold out0_7
  rw [View.canon_unit_zero hz, value_apply, qkv_at]
  rfl

theorem out8_at (i : Fin 256) (j : Fin 7168) : out0_8 x0 x1 x2 x3 x4 (ix2 i j) = code (normed (X x0 i) (G x1)) j := by
  unfold out0_8
  rw [View.canon_unit_zero hz, code_at]

theorem out9_at (i : Fin 256) (j : Fin 1) : out0_9 x0 x1 x2 x3 x4 (ix2 i j) = scale (normed (X x0 i) (G x1)) := by
  unfold out0_9
  rw [View.canon_unit_zero hz, scale_at]

end Cert.Proof.KernelRow
-- ==== Proof.Result.lean ====
/-
  The five results as functions of the five arguments: each element by its row of the tokens (Proof/Spec.lean).
-/
module

public import proofs.«01_k».proof.Proof.Spec

@[expose] public section

noncomputable section

namespace Cert.Proof.Spec

open Idealize.ShloMosaic

variable (a0 : (⟨3, ![4, 1024, 7168]⟩ : Shape).Idx → EReal) (a1 : (⟨1, ![7168]⟩ : Shape).Idx → EReal)
  (a2 : (⟨2, ![2304, 7168]⟩ : Shape).Idx → EReal) (a3 : (⟨1, ![2304]⟩ : Shape).Idx → EReal) (a4 : (⟨2, ![4, 1024]⟩ : Shape).Idx → BitVec 32)

/-- The token `s` of the sequence `b`. -/
abbrev token (b : Fin 4) (s : Fin 1024) : Fin 7168 → EReal := fun k => a0 (ix3 b s k)
/-- The gain, the weights, their scales by lane. -/
abbrev gain : Fin 7168 → EReal := fun k => a1 (ix1 k)
abbrev weight : Fin 2304 → Fin 7168 → EReal := fun j k => a2 (ix2 j k)
abbrev wscale : Fin 2304 → EReal := fun j => a3 (ix1 j)

/-- The rotated queries. -/
def queries : (⟨4, ![4, 1024, 14, 128]⟩ : Shape).Idx → EReal := fun y =>
  qRow (token a0 (y 0) (y 1)) (gain a1) (weight a2) (wscale a3) (a4 (ix2 (y 0) (y 1))) (y 2) (y 3)

/-- The rotated keys. -/
def keys : (⟨4, ![4, 1024, 2, 128]⟩ : Shape).Idx → EReal := fun y =>
  kRow (token a0 (y 0) (y 1)) (gain a1) (weight a2) (wscale a3) (a4 (ix2 (y 0) (y 1))) (y 2) (y 3)

/-- The values. -/
def values : (⟨4, ![4, 1024, 2, 128]⟩ : Shape).Idx → EReal := fun y =>
  vRow (token a0 (y 0) (y 1)) (gain a1) (weight a2) (wscale a3) (y 2) (y 3)

/-- The codes of the normalised tokens. -/
def codes : (⟨3, ![4, 1024, 7168]⟩ : Shape).Idx → EReal := fun y => code (normed (token a0 (y 0) (y 1)) (gain a1)) (y 2)

/-- The codes' scales. -/
def scales : (⟨3, ![4, 1024, 1]⟩ : Shape).Idx → EReal := fun y => scale (normed (token a0 (y 0) (y 1)) (gain a1))

end Cert.Proof.Spec
-- ==== Proof.KernelArray.lean ====
/-
  The kernel's arrays: what the host's reshapes stage, and what the sixteen tiles leave in each output array, element by
  element.
-/
module

public import proofs.«01_k».proof.Proof.KernelOut
public import proofs.«01_k».proof.Proof.Result
public import Idealize.ShloMosaic.Lib.StableHlo.Run

@[expose] public section

set_option maxRecDepth 16384

noncomputable section

namespace Cert.Proof.KernelArray

open Idealize.ShloMosaic Idealize.ShloMosaic.TcCoe Idealize.SL.Sem
open Cert.KernelIdeal Cert.KernelIdeal.Gen Cert.Proof.Spec

variable (m : (ℓ : Loc nD τ sig) → Buf (Elt Ideal) ℓ) (c : Dev nD)

/-! ## The staged operands -/

theorem V_v0 : V m c main_v0 = shapeCast S4096x7168 (m ((c : Thread nD τ).loc main_arg0)) shapeCasts_S4x1024x7168_S4096x7168 := by
  show StableHlo.after hostOps0 _ (Proc.devRef .tc main_v0) = _
  after_results
  rfl

theorem V_v1 : V m c main_v1 = shapeCast S1x7168 (m ((c : Thread nD τ).loc main_arg1)) shapeCasts_S7168_S1x7168 := by
  show StableHlo.after hostOps0 _ (Proc.devRef .tc main_v1) = _
  after_results
  rfl

theorem V_v2 : V m c main_v2 = shapeCast S1x2304 (m ((c : Thread nD τ).loc main_arg3)) shapeCasts_S2304_S1x2304 := by
  show StableHlo.after hostOps0 _ (Proc.devRef .tc main_v2) = _
  after_results
  rfl

theorem V_v3 : V m c main_v3 = shapeCast S4096x1 (m ((c : Thread nD τ).loc main_arg4)) shapeCasts_S4x1024_S4096x1 := by
  show StableHlo.after hostOps0 _ (Proc.devRef .tc main_v3) = _
  after_results
  rfl

theorem tokens_apply (a : FVec Ideal S4x1024x7168 .bf16) (b : Fin 4) (s : Fin 1024) (k : Fin 7168) :
    shapeCast S4096x7168 a shapeCasts_S4x1024x7168_S4096x7168 (ix2 ⟨b.val * 1024 + s.val, by omega⟩ k) = a (ix3 b s k) := by
  pointwise []

theorem gain_apply (a : FVec Ideal S7168 .f32) (k : Fin 7168) :
    shapeCast S1x7168 a shapeCasts_S7168_S1x7168 (ix2 0 k) = a (ix1 k) := by
  pointwise []

theorem wscale_apply (a : FVec Ideal S2304 .f32) (k : Fin 2304) :
    shapeCast S1x2304 a shapeCasts_S2304_S1x2304 (ix2 0 k) = a (ix1 k) := by
  pointwise []

theorem position_apply (a : IVec S4x1024 32) (b : Fin 4) (s : Fin 1024) (u : Fin 1) :
    shapeCast S4096x1 a shapeCasts_S4x1024_S4096x1 (ix2 ⟨b.val * 1024 + s.val, by omega⟩ u) = a (ix2 b s) := by
  pointwise []

/-! ## The blocks of a tile -/

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = t.val ∧ win0_7.index t 1 = 0 :=
  (by decide +kernel : ∀ t : Fin grid0.N, win0_7.index t 0 = t.val ∧ win0_7.index t 1 = 0)
theorem index8 : ∀ t : Fin cfg0.N, win0_8.index t 0 = t.val ∧ win0_8.index t 1 = 0 :=
  (by decide +kernel : ∀ t : Fin grid0.N, win0_8.index t 0 = t.val ∧ win0_8.index t 1 = 0)
theorem index9 : ∀ t : Fin cfg0.N, win0_9.index t 0 = t.val ∧ win0_9.index t 1 = 0 :=
  (by decide +kernel : ∀ t : Fin grid0.N, win0_9.index t 0 = t.val ∧ win0_9.index t 1 = 0)

theorem block0 (t : Fin cfg0.N) (i : Fin 256) (k : Fin 7168) (r : Fin 4096) (hr : r.val = t.val * 256 + i.val) :
    iblk m c 0 t (ix2 i k) = V m c main_v0 (ix2 r k) := by
  obtain ⟨e0, e1⟩ := index0 t
  unfold iblk
  show V m c main_v0 _ = V m c main_v0 _
  refine congrArg (V m c main_v0) (funext fun a => Fin.ext ?_)
  match a with
  | ⟨0, _⟩ => show win0_0.index t 0 * 256 + 1 * i.val = r.val; omega
  | ⟨1, _⟩ => show win0_0.index t 1 * 7168 + 1 * k.val = k.val; omega

theorem block1 (t : Fin cfg0.N) (k : Fin 7168) : iblk m c 1 t (ix2 0 k) = V m c main_v1 (ix2 0 k) := by
  obtain ⟨e0, e1⟩ := index1 t
  unfold iblk
  show V m c main_v1 _ = V m c main_v1 _
  refine congrArg (V m c main_v1) (funext fun a => Fin.ext ?_)
  match a with
  | ⟨0, _⟩ => show win0_1.index t 0 * 1 + 1 * 0 = 0; omega
  | ⟨1, _⟩ => show win0_1.index t 1 * 7168 + 1 * k.val = k.val; omega

theorem block2 (t : Fin cfg0.N) (j : Fin 2304) (k : Fin 7168) : iblk m c 2 t (ix2 j k) = V m c main_arg2 (ix2 j k) := by
  obtain ⟨e0, e1⟩ := index2 t
  unfold iblk
  show V m c main_arg2 _ = V m c main_arg2 _
  refine congrArg (V m c main_arg2) (funext fun a => Fin.ext ?_)
  match a with
  | ⟨0, _⟩ => show win0_2.index t 0 * 2304 + 1 * j.val = j.val; omega
  | ⟨1, _⟩ => show win0_2.index t 1 * 7168 + 1 * k.val = k.val; omega

theorem block3 (t : Fin cfg0.N) (j : Fin 2304) : iblk m c 3 t (ix2 0 j) = V m c main_v2 (ix2 0 j) := by
  obtain ⟨e0, e1⟩ := index3 t
  unfold iblk
  show V m c main_v2 _ = V m c main_v2 _
  refine congrArg (V m c main_v2) (funext fun a => Fin.ext ?_)
  match a with
  | ⟨0, _⟩ => show win0_3.index t 0 * 1 + 1 * 0 = 0; omega
  | ⟨1, _⟩ => show win0_3.index t 1 * 2304 + 1 * j.val = j.val; omega

theorem block4 (t : Fin cfg0.N) (i : Fin 256) (r : Fin 4096) (hr : r.val = t.val * 256 + i.val) :
    iblk m c 4 t (ix2 i 0) = V m c main_v3 (ix2 r 0) := by
  obtain ⟨e0, e1⟩ := index4 t
  unfold iblk
  show V m c main_v3 _ = V m c main_v3 _
  refine congrArg (V m c main_v3) (funext fun a => Fin.ext ?_)
  match a with
  | ⟨0, _⟩ => show win0_4.index t 0 * 256 + 1 * i.val = r.val; omega
  | ⟨1, _⟩ => show win0_4.index t 1 * 1 + 1 * 0 = 0; omega

/-! ## The output arrays -/

theorem flushed5 (t : Fin cfg0.N) : (dats m 0 c).flushed 5 t
    = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]
theorem flushed6 (t : Fin cfg0.N) : (dats m 0 c).flushed 6 t
    = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]
theorem flushed7 (t : Fin cfg0.N) : (dats m 0 c).flushed 7 t
    = (cfg0.win 7).cut (grid0.coords t) (out0_7 (iblk m c 0 t) (iblk m c 1 t) (iblk m c 2 t) (iblk m c 3 t) (iblk m c 4 t)) := by
  show (cfg0.win 7).cut (grid0.coords t) ((dats m 0 c).after 7 t) = _
  rw [after0_7]
theorem flushed8 (t : Fin cfg0.N) : (dats m 0 c).flushed 8 t
    = (cfg0.win 8).cut (grid0.coords t) (out0_8 (iblk m c 0 t) (iblk m c 1 t) (iblk m c 2 t) (iblk m c 3 t) (iblk m c 4 t)) := by
  show (cfg0.win 8).cut (grid0.coords t) ((dats m 0 c).after 8 t) = _
  rw [after0_8]
theorem flushed9 (t : Fin cfg0.N) : (dats m 0 c).flushed 9 t
    = (cfg0.win 9).cut (grid0.coords t) (out0_9 (iblk m c 0 t) (iblk m c 1 t) (iblk m c 2 t) (iblk m c 3 t) (iblk m c 4 t)) := by
  show (cfg0.win 9).cut (grid0.coords t) ((dats m 0 c).after 9 t) = _
  rw [after0_9]

/-- Two tiles of a window whose block index is the tile's number share no index. -/
theorem apart {f : Fin cfg0.N → Fin 2 → ℕ} (h : ∀ t, f t 0 = t.val ∧ f t 1 = 0) (t t' : Fin cfg0.N) (e : f t = f t') : t = t' :=
  Fin.ext (by rw [← (h t).1, ← (h t').1, e])

theorem blocks5 (t : Fin cfg0.N) : ((cfg0.win 5).blk t).view.read (Elt Ideal) ((dats m 0 c).arrAt 5 cfg0.N) = (dats m 0 c).flushed 5 t :=
  (dats m 0 c).read_blk_arrAt_eq_flushed 5 (fun t t' _ _ hne => (cfg0.win 5).disjoint_blk fun h => hne (apart index5 t t' h)) cfg0.N t
    t.isLt (flush0_5 t)
theorem blocks6 (t : Fin cfg0.N) : ((cfg0.win 6).blk t).view.read (Elt Ideal) ((dats m 0 c).arrAt 6 cfg0.N) = (dats m 0 c).flushed 6 t :=
  (dats m 0 c).read_blk_arrAt_eq_flushed 6 (fun t t' _ _ hne => (cfg0.win 6).disjoint_blk fun h => hne (apart index6 t t' h)) cfg0.N t
    t.isLt (flush0_6 t)
theorem blocks7 (t : Fin cfg0.N) : ((cfg0.win 7).blk t).view.read (Elt Ideal) ((dats m 0 c).arrAt 7 cfg0.N) = (dats m 0 c).flushed 7 t :=
  (dats m 0 c).read_blk_arrAt_eq_flushed 7 (fun t t' _ _ hne => (cfg0.win 7).disjoint_blk fun h => hne (apart index7 t t' h)) cfg0.N t
    t.isLt (flush0_7 t)
theorem blocks8 (t : Fin cfg0.N) : ((cfg0.win 8).blk t).view.read (Elt Ideal) ((dats m 0 c).arrAt 8 cfg0.N) = (dats m 0 c).flushed 8 t :=
  (dats m 0 c).read_blk_arrAt_eq_flushed 8 (fun t t' _ _ hne => (cfg0.win 8).disjoint_blk fun h => hne (apart index8 t t' h)) cfg0.N t
    t.isLt (flush0_8 t)
theorem blocks9 (t : Fin cfg0.N) : ((cfg0.win 9).blk t).view.read (Elt Ideal) ((dats m 0 c).arrAt 9 cfg0.N) = (dats m 0 c).flushed 9 t :=
  (dats m 0 c).read_blk_arrAt_eq_flushed 9 (fun t t' _ _ hne => (cfg0.win 9).disjoint_blk fun h => hne (apart index9 t t' h)) cfg0.N t
    t.isLt (flush0_9 t)

theorem array5 (t : Fin cfg0.N) (i : Fin 256) (j : Fin 1792) (r : Fin 4096) (hr : r.val = t.val * 256 + i.val) :
    (dats m 0 c).arrAt 5 cfg0.N (ix2 r j)
      = out0_5 (iblk m c 0 t) (iblk m c 1 t) (iblk m c 2 t) (iblk m c 3 t) (iblk m c 4 t) (ix2 i j) := by
  obtain ⟨e0, e1⟩ := index5 t
  have h := congrFun (blocks5 m c t) (ix2 i j)
  rw [flushed5] at h
  refine Eq.trans ?_ h
  show (dats m 0 c).arrAt 5 cfg0.N _ = (dats m 0 c).arrAt 5 cfg0.N _
  refine congrArg ((dats m 0 c).arrAt 5 cfg0.N) (funext fun a => Fin.ext ?_)
  match a with
  | ⟨0, _⟩ => show r.val = win0_5.index t 0 * 256 + 1 * i.val; omega
  | ⟨1, _⟩ => show j.val = win0_5.index t 1 * 1792 + 1 * j.val; omega

theorem array6 (t : Fin cfg0.N) (i : Fin 256) (j : Fin 256) (r : Fin 4096) (hr : r.val = t.val * 256 + i.val) :
    (dats m 0 c).arrAt 6 cfg0.N (ix2 r j)
      = out0_6 (iblk m c 0 t) (iblk m c 1 t) (iblk m c 2 t) (iblk m c 3 t) (iblk m c 4 t) (ix2 i j) := by
  obtain ⟨e0, e1⟩ := index6 t
  have h := congrFun (blocks6 m c t) (ix2 i j)
  rw [flushed6] at h
  refine Eq.trans ?_ h
  show (dats m 0 c).arrAt 6 cfg0.N _ = (dats m 0 c).arrAt 6 cfg0.N _
  refine congrArg ((dats m 0 c).arrAt 6 cfg0.N) (funext fun a => Fin.ext ?_)
  match a with
  | ⟨0, _⟩ => show r.val = win0_6.index t 0 * 256 + 1 * i.val; omega
  | ⟨1, _⟩ => show j.val = win0_6.index t 1 * 256 + 1 * j.val; omega

theorem array7 (t : Fin cfg0.N) (i : Fin 256) (j : Fin 256) (r : Fin 4096) (hr : r.val = t.val * 256 + i.val) :
    (dats m 0 c).arrAt 7 cfg0.N (ix2 r j)
      = out0_7 (iblk m c 0 t) (iblk m c 1 t) (iblk m c 2 t) (iblk m c 3 t) (iblk m c 4 t) (ix2 i j) := by
  obtain ⟨e0, e1⟩ := index7 t
  have h := congrFun (blocks7 m c t) (ix2 i j)
  rw [flushed7] at h
  refine Eq.trans ?_ h
  show (dats m 0 c).arrAt 7 cfg0.N _ = (dats m 0 c).arrAt 7 cfg0.N _
  refine congrArg ((dats m 0 c).arrAt 7 cfg0.N) (funext fun a => Fin.ext ?_)
  match a with
  | ⟨0, _⟩ => show r.val = win0_7.index t 0 * 256 + 1 * i.val; omega
  | ⟨1, _⟩ => show j.val = win0_7.index t 1 * 256 + 1 * j.val; omega

theorem array8 (t : Fin cfg0.N) (i : Fin 256) (j : Fin 7168) (r : Fin 4096) (hr : r.val = t.val * 256 + i.val) :
    (dats m 0 c).arrAt 8 cfg0.N (ix2 r j)
      = out0_8 (iblk m c 0 t) (iblk m c 1 t) (iblk m c 2 t) (iblk m c 3 t) (iblk m c 4 t) (ix2 i j) := by
  obtain ⟨e0, e1⟩ := index8 t
  have h := congrFun (blocks8 m c t) (ix2 i j)
  rw [flushed8] at h
  refine Eq.trans ?_ h
  show (dats m 0 c).arrAt 8 cfg0.N _ = (dats m 0 c).arrAt 8 cfg0.N _
  refine congrArg ((dats m 0 c).arrAt 8 cfg0.N) (funext fun a => Fin.ext ?_)
  match a with
  | ⟨0, _⟩ => show r.val = win0_8.index t 0 * 256 + 1 * i.val; omega
  | ⟨1, _⟩ => show j.val = win0_8.index t 1 * 7168 + 1 * j.val; omega

theorem array9 (t : Fin cfg0.N) (i : Fin 256) (j : Fin 1) (r : Fin 4096) (hr : r.val = t.val * 256 + i.val) :
    (dats m 0 c).arrAt 9 cfg0.N (ix2 r j)
      = out0_9 (iblk m c 0 t) (iblk m c 1 t) (iblk m c 2 t) (iblk m c 3 t) (iblk m c 4 t) (ix2 i j) := by
  obtain ⟨e0, e1⟩ := index9 t
  have h := congrFun (blocks9 m c t) (ix2 i j)
  rw [flushed9] at h
  refine Eq.trans ?_ h
  show (dats m 0 c).arrAt 9 cfg0.N _ = (dats m 0 c).arrAt 9 cfg0.N _
  refine congrArg ((dats m 0 c).arrAt 9 cfg0.N) (funext fun a => Fin.ext ?_)
  match a with
  | ⟨0, _⟩ => show r.val = win0_9.index t 0 * 256 + 1 * i.val; omega
  | ⟨1, _⟩ => show j.val = win0_9.index t 1 * 1 + 1 * j.val; omega

end Cert.Proof.KernelArray
-- ==== Proof.KernelRun.lean ====
/-
  The kernel's run with its results: each of the five is the function of the arguments that Proof/Result.lean states.
-/
module

public import proofs.«01_k».proof.Proof.KernelArray

@[expose] public section

set_option maxRecDepth 16384

noncomputable section

namespace Cert.Proof.KernelArray

open Idealize.ShloMosaic Idealize.ShloMosaic.TcCoe Idealize.SL.Sem
open Cert.KernelIdeal Cert.KernelIdeal.Gen Cert.Proof.Spec

variable (m : (ℓ : Loc nD τ sig) → Buf (Elt Ideal) ℓ) (ρ : Dev nD → PrngReg) (c : Dev nD)

/-- The arguments. -/
abbrev arg0 : Vec Ideal S4x1024x7168 .bf16 := m ((c : Thread nD τ).loc main_arg0)
abbrev arg1 : Vec Ideal S7168 .f32 := m ((c : Thread nD τ).loc main_arg1)
abbrev arg2 : Vec Ideal S2304x7168 .fp8e4m3 := m ((c : Thread nD τ).loc main_arg2)
abbrev arg3 : Vec Ideal S2304 .f32 := m ((c : Thread nD τ).loc main_arg3)
abbrev arg4 : Vec Ideal S4x1024 .i32 := m ((c : Thread nD τ).loc main_arg4)

/-- The flat row of a token, its tile and its row in the tile. -/
abbrev flat (b : Fin 4) (s : Fin 1024) : Fin 4096 := ⟨b.val * 1024 + s.val, by omega⟩
def tile (b : Fin 4) (s : Fin 1024) : Fin cfg0.N := ⟨(b.val * 1024 + s.val) / 256, by have h : cfg0.N = 16 := N_0; omega⟩
abbrev local_ (b : Fin 4) (s : Fin 1024) : Fin 256 := ⟨(b.val * 1024 + s.val) % 256, by omega⟩

theorem flat_eq (b : Fin 4) (s : Fin 1024) : (flat b s).val = (tile b s).val * 256 + (local_ b s).val := by
  show b.val * 1024 + s.val = (b.val * 1024 + s.val) / 256 * 256 + (b.val * 1024 + s.val) % 256
  omega

/-! ## The tile's rows are the tokens -/

theorem row_token (b : Fin 4) (s : Fin 1024) :
    KernelRow.X (iblk m c 0 (tile b s)) (local_ b s) = token (arg0 m c) b s := by
  funext k
  refine (block0 m c (tile b s) (local_ b s) k (flat b s) (flat_eq b s)).trans ?_
  rw [V_v0]
  exact tokens_apply (arg0 m c) b s k

theorem row_gain (t : Fin cfg0.N) : KernelRow.G (iblk m c 1 t) = gain (arg1 m c) := by
  funext k
  refine (block1 m c t k).trans ?_
  rw [V_v1]
  exact gain_apply (arg1 m c) k

theorem row_weight (t : Fin cfg0.N) : KernelRow.Wt (iblk m c 2 t) = weight (arg2 m c) := by
  funext j k
  refine (block2 m c t j k).trans ?_
  rw [V_main_arg2]

theorem row_wscale (t : Fin cfg0.N) : KernelRow.Ws (iblk m c 3 t) = wscale (arg3 m c) := by
  funext j
  refine (block3 m c t j).trans ?_
  rw [V_v2]
  exact wscale_apply (arg3 m c) j

theorem row_position (b : Fin 4) (s : Fin 1024) :
    (iblk m c 4 (tile b s) (ix2 (local_ b s) 0) : BitVec 32) = arg4 m c (ix2 b s) := by
  refine (block4 m c (tile b s) (local_ b s) (flat b s) (flat_eq b s)).trans ?_
  rw [V_v3]
  exact position_apply (arg4 m c) b s 0

/-! ## The host's reshapes of the results -/

theorem tail5 : Pipeline.afterTail₀ cfgs (dats m) 0 (V0 m) [hostOps1] c main_v5
    = shapeCast S4x1024x14x128 ((dats m 0 c).arrAt 5 cfg0.N) shapeCasts_S4096x1792_S4x1024x14x128 := by
  unfold Pipeline.afterTail₀
  show StableHlo.after hostOps1 _ (Proc.devRef .tc main_v5) = _
  after_results
  exact congrArg (fun X => shapeCast S4x1024x14x128 X shapeCasts_S4096x1792_S4x1024x14x128)
    (Pipeline.withArrays_arr spec0 launch0.win.arr_inj c (V0 m c) (fun w => (dats m 0 c).arrAt w cfg0.N) 5)

theorem tail6 : Pipeline.afterTail₀ cfgs (dats m) 0 (V0 m) [hostOps1] c main_v6
    = shapeCast S4x1024x2x128 ((dats m 0 c).arrAt 6 cfg0.N) shapeCasts_S4096x256_S4x1024x2x128 := by
  unfold Pipeline.afterTail₀
  show StableHlo.after hostOps1 _ (Proc.devRef .tc main_v6) = _
  after_results
  exact congrArg (fun X => shapeCast S4x1024x2x128 X shapeCasts_S4096x256_S4x1024x2x128)
    (Pipeline.withArrays_arr spec0 launch0.win.arr_inj c (V0 m c) (fun w => (dats m 0 c).arrAt w cfg0.N) 6)

theorem tail7 : Pipeline.afterTail₀ cfgs (dats m) 0 (V0 m) [hostOps1] c main_v7
    = shapeCast S4x1024x2x128 ((dats m 0 c).arrAt 7 cfg0.N) shapeCasts_S4096x256_S4x1024x2x128 := by
  unfold Pipeline.afterTail₀
  show StableHlo.after hostOps1 _ (Proc.devRef .tc main_v7) = _
  after_results
  exact congrArg (fun X => shapeCast S4x1024x2x128 X shapeCasts_S4096x256_S4x1024x2x128)
    (Pipeline.withArrays_arr spec0 launch0.win.arr_inj c (V0 m c) (fun w => (dats m 0 c).arrAt w cfg0.N) 7)

theorem tail8 : Pipeline.afterTail₀ cfgs (dats m) 0 (V0 m) [hostOps1] c main_v8
    = shapeCast S4x1024x7168 ((dats m 0 c).arrAt 8 cfg0.N) shapeCasts_S4096x7168_S4x1024x7168 := by
  unfold Pipeline.afterTail₀
  show StableHlo.after hostOps1 _ (Proc.devRef .tc main_v8) = _
  after_results
  exact congrArg (fun X => shapeCast S4x1024x7168 X shapeCasts_S4096x7168_S4x1024x7168)
    (Pipeline.withArrays_arr spec0 launch0.win.arr_inj c (V0 m c) (fun w => (dats m 0 c).arrAt w cfg0.N) 8)

theorem tail9 : Pipeline.afterTail₀ cfgs (dats m) 0 (V0 m) [hostOps1] c main_v9
    = shapeCast S4x1024x1 ((dats m 0 c).arrAt 9 cfg0.N) shapeCasts_S4096x1_S4x1024x1 := by
  unfold Pipeline.afterTail₀
  show StableHlo.after hostOps1 _ (Proc.devRef .tc main_v9) = _
  after_results
  exact congrArg (fun X => shapeCast S4x1024x1 X shapeCasts_S4096x1_S4x1024x1)
    (Pipeline.withArrays_arr spec0 launch0.win.arr_inj c (V0 m c) (fun w => (dats m 0 c).arrAt w cfg0.N) 9)

theorem heads14_apply (a : FVec Ideal S4096x1792 .bf16) (b : Fin 4) (s : Fin 1024) (n : Fin 14) (l : Fin 128) :
    shapeCast S4x1024x14x128 a shapeCasts_S4096x1792_S4x1024x14x128 (ix4 b s n l)
      = a (ix2 ⟨b.val * 1024 + s.val, by omega⟩ ⟨n.val * 128 + l.val, by omega⟩) := by
  pointwise []

theorem heads2_apply (a : FVec Ideal S4096x256 .bf16) (b : Fin 4) (s : Fin 1024) (n : Fin 2) (l : Fin 128) :
    shapeCast S4x1024x2x128 a shapeCasts_S4096x256_S4x1024x2x128 (ix4 b s n l)
      = a (ix2 ⟨b.val * 1024 + s.val, by omega⟩ ⟨n.val * 128 + l.val, by omega⟩) := by
  pointwise []

theorem codes_apply (a : FVec Ideal S4096x7168 .fp8e4m3) (b : Fin 4) (s : Fin 1024) (j : Fin 7168) :
    shapeCast S4x1024x7168 a shapeCasts_S4096x7168_S4x1024x7168 (ix3 b s j) = a (ix2 ⟨b.val * 1024 + s.val, by omega⟩ j) := by
  pointwise []

theorem scales_apply (a : FVec Ideal S4096x1 .f32) (b : Fin 4) (s : Fin 1024) (u : Fin 1) :
    shapeCast S4x1024x1 a shapeCasts_S4096x1_S4x1024x1 (ix3 b s u) = a (ix2 ⟨b.val * 1024 + s.val, by omega⟩ 0) := by
  pointwise []

/-! ## The results -/

theorem result5 : Pipeline.afterTail₀ cfgs (dats m) 0 (V0 m) [hostOps1] c main_v5
    = queries (arg0 m c) (arg1 m c) (arg2 m c) (arg3 m c) (arg4 m c) := by
  rw [tail5]
  funext y
  obtain ⟨b, s, n, l, rfl⟩ : ∃ b s n l, y = ix4 b s n l := ⟨_, _, _, _, eq_ix4 y⟩
  refine (heads14_apply _ b s n l).trans ?_
  refine (array5 m c (tile b s) (local_ b s) _ (flat b s) (flat_eq b s)).trans ?_
  refine (KernelRow.out5_at _ _ _ _ _ (local_ b s) n l).trans ?_
  rw [row_token, row_gain, row_weight, row_wscale]
  exact congrArg (fun p => qRow (token (arg0 m c) b s) (gain (arg1 m c)) (weight (arg2 m c)) (wscale (arg3 m c)) p n l) (row_position m c b s)

theorem result6 : Pipeline.afterTail₀ cfgs (dats m) 0 (V0 m) [hostOps1] c main_v6
    = keys (arg0 m c) (arg1 m c) (arg2 m c) (arg3 m c) (arg4 m c) := by
  rw [tail6]
  funext y
  obtain ⟨b, s, n, l, rfl⟩ : ∃ b s n l, y = ix4 b s n l := ⟨_, _, _, _, eq_ix4 y⟩
  refine (heads2_apply _ b s n l).trans ?_
  refine (array6 m c (tile b s) (local_ b s) _ (flat b s) (flat_eq b s)).trans ?_
  refine (KernelRow.out6_at _ _ _ _ _ (local_ b s) n l).trans ?_
  rw [row_token, row_gain, row_weight, row_wscale]
  exact congrArg (fun p => kRow (token (arg0 m c) b s) (gain (arg1 m c)) (weight (arg2 m c)) (wscale (arg3 m c)) p n l) (row_position m c b s)

theorem result7 : Pipeline.afterTail₀ cfgs (dats m) 0 (V0 m) [hostOps1] c main_v7
    = values (arg0 m c) (arg1 m c) (arg2 m c) (arg3 m c) := by
  rw [tail7]
  funext y
  obtain ⟨b, s, n, l, rfl⟩ : ∃ b s n l, y = ix4 b s n l := ⟨_, _, _, _, eq_ix4 y⟩
  refine (heads2_apply _ b s n l).trans ?_
  refine (array7 m c (tile b s) (local_ b s) _ (flat b s) (flat_eq b s)).trans ?_
  refine (KernelRow.out7_at _ _ _ _ _ (local_ b s) n l).trans ?_
  rw [row_token, row_gain, row_weight, row_wscale]
  rfl

theorem result8 : Pipeline.afterTail₀ cfgs (dats m) 0 (V0 m) [hostOps1] c main_v8 = codes (arg0 m c) (arg1 m c) := by
  rw [tail8]
  funext y
  obtain ⟨b, s, j, rfl⟩ : ∃ b s j, y = ix3 b s j := ⟨_, _, _, eq_ix3 y⟩
  refine (codes_apply _ b s j).trans ?_
  refine (array8 m c (tile b s) (local_ b s) _ (flat b s) (flat_eq b s)).trans ?_
  refine (KernelRow.out8_at _ _ _ _ _ (local_ b s) j).trans ?_
  rw [row_token, row_gain]
  rfl

theorem result9 : Pipeline.afterTail₀ cfgs (dats m) 0 (V0 m) [hostOps1] c main_v9 = scales (arg0 m c) (arg1 m c) := by
  rw [tail9]
  funext y
  obtain ⟨b, s, j, rfl⟩ : ∃ b s j, y = ix3 b s j := ⟨_, _, _, eq_ix3 y⟩
  refine (scales_apply _ b s j).trans ?_
  refine (array9 m c (tile b s) (local_ b s) _ (flat b s) (flat_eq b s)).trans ?_
  refine (KernelRow.out9_at _ _ _ _ _ (local_ b s) 0).trans ?_
  rw [row_token, row_gain]
  rfl

/-- The run: the five results are the functions of the arguments, and the arguments end unchanged. -/
theorem run : θ_run (defs (F := Ideal)) (onTc (τ := τ) (main (F := Ideal))) ⟨m, fun _ => 0, ρ⟩ (fun r => ∀ c : Dev nD,
    r.2.mem ((c.tc : Thread nD τ).loc main_v5) = queries (arg0 m c) (arg1 m c) (arg2 m c) (arg3 m c) (arg4 m c)
    ∧ r.2.mem ((c.tc : Thread nD τ).loc main_v6) = keys (arg0 m c) (arg1 m c) (arg2 m c) (arg3 m c) (arg4 m c)
    ∧ r.2.mem ((c.tc : Thread nD τ).loc main_v7) = values (arg0 m c) (arg1 m c) (arg2 m c) (arg3 m c)
    ∧ r.2.mem ((c.tc : Thread nD τ).loc main_v8) = codes (arg0 m c) (arg1 m c)
    ∧ r.2.mem ((c.tc : Thread nD τ).loc main_v9) = scales (arg0 m c) (arg1 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run defs _ _).mono (fun r h c => ?_) (θ_run_and (run_main (F := Ideal) m ρ) (unchanged (F := Ideal) m ρ))
  obtain ⟨h, hu⟩ := h
  exact ⟨((h c).2 main_v5 (Pipeline.mem_restRefs_of main_v5 (by decide) (by decide))).trans (result5 m c),
    ((h c).2 main_v6 (Pipeline.mem_restRefs_of main_v6 (by decide) (by decide))).trans (result6 m c),
    ((h c).2 main_v7 (Pipeline.mem_restRefs_of main_v7 (by decide) (by decide))).trans (result7 m c),
    ((h c).2 main_v8 (Pipeline.mem_restRefs_of main_v8 (by decide) (by decide))).trans (result8 m c),
    ((h c).2 main_v9 (Pipeline.mem_restRefs_of main_v9 (by decide) (by decide))).trans (result9 m c),
    hu c⟩

end Cert.Proof.KernelArray
-- ==== Proof.ReferenceRow.lean ====
/-
  The reference's values at one index, as the functions of the row (Proof/Spec.lean).
-/
module

public import proofs.«01_k».proof.Proof.Gen.ReferenceIdeal.Frame
public import proofs.«01_k».proof.Proof.Spec

@[expose] public section

set_option maxRecDepth 16384

noncomputable section

namespace Cert.Proof.ReferenceRow

open Idealize.ShloMosaic Cert.ReferenceIdeal Cert.ReferenceIdeal.Gen Cert.Proof.Exponent Cert.Proof.Spec

/-- The row maxima, as a column. -/
def rowMax (h : FVec Ideal S4x1024x7168 .f32) : FVec Ideal S4x1024x1 .f32 :=
  shapeCast S4x1024x1 (multiReduction .maximumf [2] S4x1024 (absf h) 0xFF800000#32 reduces_S4x1024x7168_S4x1024 (.inl rfl) rfl)
    shapeCasts_S4x1024_S4x1024x1

/-- The column that the exponent is taken of. -/
def scaled (am : FVec Ideal S4x1024x1 .f32) : FVec Ideal S4x1024x1 .f32 := mulf am (broadcast S4x1024x1 (Scalar.ofBits .f32 0x3B124925#32))

/-- How many powers of two lie at or below a column's magnitudes. -/
def countV (x : FVec Ideal S4x1024x1 .f32) : FVec Ideal S4x1024x1 .f32 :=
  have v21 : IVec S1x1x254 32 := iota .tc S1x1x254 32 [2] iota_S1x1x254_d2_w32
  have v22 : IVec S1x1x254 32 := broadcast S1x1x254 126#32
  have v23 : IVec S1x1x254 32 := subi v21 v22
  have v24 : FVec Ideal S1x1x254 .f32 := sitofp .f32 v23
  have v25 : FVec Ideal S1x1x254 .f32 := exp2 v24
  have v26 : FVec Ideal S4x1024x1 .f32 := absf x
  have v27 : FVec Ideal S4x1024x254 .f32 := broadcastTo S4x1024x254 v25 broadcasts_S1x1x254_S4x1024x254
  have v28 : FVec Ideal S4x1024x254 .f32 := broadcastTo S4x1024x254 v26 broadcasts_S4x1024x1_S4x1024x254
  have v29 : IVec S4x1024x254 1 := cmpf .ole v27 v28
  have cst_9 : Ideal .f32 := Scalar.ofBits .f32 0x3F800000#32
  have cst_10 : Ideal .f32 := Scalar.ofBits .f32 0x00000000#32
  have v30 : FVec Ideal S4x1024x254 .f32 := broadcast S4x1024x254 cst_9
  have v31 : FVec Ideal S4x1024x254 .f32 := broadcast S4x1024x254 cst_10
  have v32 : FVec Ideal S4x1024x254 .f32 := select v29 v30 v31
  have v33 : FVec Ideal S4x1024 .f32 := multiReduction .add [2] S4x1024 v32 0x00000000#32 reduces_S4x1024x254_S4x1024 (.inl rfl) rfl
  shapeCast S4x1024x1 v33 shapeCasts_S4x1024_S4x1024x1

/-- Where the count says that there is no exponent to take. -/
def edgeV (n x : FVec Ideal S4x1024x1 .f32) : IVec S4x1024x1 1 :=
  ori (cmpf .oeq n (broadcast S4x1024x1 (Scalar.ofBits .f32 0x00000000#32)))
    (cmpf .oeq (absf x) (broadcast S4x1024x1 (Scalar.ofBits .f32 0x7F800000#32)))

theorem pay5_eq (v0 : Vec Ideal S4x1024x7168 .bf16) (v12 : Vec Ideal S1x1x7168 .f32) : k0_pay5 v0 v12 = rowMax (k0_pay4 v0 v12) := by
  unfold k0_pay5
  generalize k0_pay4 v0 v12 = h
  rfl

theorem pay6_eq (v0 : Vec Ideal S4x1024x7168 .bf16) (v12 : Vec Ideal S1x1x7168 .f32) : k0_pay6 v0 v12 = scaled (k0_pay5 v0 v12) := by
  unfold k0_pay6
  generalize k0_pay5 v0 v12 = h
  rfl

theorem pay7_eq (v0 : Vec Ideal S4x1024x7168 .bf16) (v12 : Vec Ideal S1x1x7168 .f32) : k0_pay7 v0 v12 = countV (k0_pay6 v0 v12) := by
  unfold k0_pay7
  generalize k0_pay6 v0 v12 = h
  rfl

theorem pay8_eq (v0 : Vec Ideal S4x1024x7168 .bf16) (v12 : Vec Ideal S1x1x7168 .f32) :
    k0_pay8 v0 v12 = edgeV (k0_pay7 v0 v12) (k0_pay6 v0 v12) := by
  unfold k0_pay8
  generalize k0_pay6 v0 v12 = x
  generalize k0_pay7 v0 v12 = n
  rfl

theorem normed_apply (v0 : Vec Ideal S4x1024x7168 .bf16) (v12 : Vec Ideal S1x1x7168 .f32) (i : Fin 4) (s : Fin 1024) (j : Fin 7168) :
    k0_pay4 v0 v12 (ix3 i s j) = normed (fun k => v0 (ix3 i s k)) (fun k => v12 (ix3 0 0 k)) j := by
  pointwise [k0_pay4]
  rfl

theorem rowMax_apply (h : FVec Ideal S4x1024x7168 .f32) (i : Fin 4) (s : Fin 1024) (j : Fin 1) :
    rowMax h (ix3 i s j) = top (fun k => h (ix3 i s k)) := by
  pointwise [rowMax]
  rfl

theorem scaled_apply (am : FVec Ideal S4x1024x1 .f32) (i : Fin 4) (s : Fin 1024) (j : Fin 1) :
    scaled am (ix3 i s j) = am (ix3 i s j) * Ideal.ofBits .f32 0x3B124925#32 := by
  pointwise [scaled]

theorem count_apply (x : FVec Ideal S4x1024x1 .f32) (i : Fin 4) (s : Fin 1024) (j : Fin 1) :
    countV x (ix3 i s j) = below (mag (x (ix3 i s 0))) := by
  pointwise [countV]
  rfl

theorem edge_apply (n x : FVec Ideal S4x1024x1 .f32) (i : S4x1024x1.Idx) :
    edgeV n x i = IntOp.ori (BitVec.ofBool (decide (n i = 0))) (BitVec.ofBool (decide (mag (x i) = Ideal.ofBits .f32 0x7F800000#32))) := by
  pointwise [edgeV]
  rfl

/-- The exponent's column. -/
theorem expo_apply (am x : FVec Ideal S4x1024x1 .f32) (i : Fin 4) (s : Fin 1024) (j : Fin 1) :
    k0_pay10 am (countV x) (edgeV (countV x) x) k0_pay9 (ix3 i s j) = rexp (am (ix3 i s j)) (mag (x (ix3 i s j))) := by
  have hj : j = 0 := Subsingleton.elim _ _
  subst hj
  have hn := count_apply x i s 0
  have he := edge_apply (countV x) x (ix3 i s 0)
  rw [hn] at he
  generalize edgeV (countV x) x = e at he ⊢
  generalize countV x = n at hn ⊢
  pointwise [k0_pay10, k0_pay9]
  rw [hn, he]
  unfold rexp
  generalize below (mag (x (ix3 i s 0))) = b
  rfl

theorem scale_apply (am n : FVec Ideal S4x1024x1 .f32) (e : IVec S4x1024x1 1) (c : FVec Ideal S4x1024x1 .f32) (i : S4x1024x1.Idx) :
    k0_pay11 am n e c i = rpow (k0_pay10 am n e c i) := by
  pointwise [k0_pay11, rpow]
  rfl

theorem code_apply (h : FVec Ideal S4x1024x7168 .f32) (am n : FVec Ideal S4x1024x1 .f32) (e : IVec S4x1024x1 1) (c : FVec Ideal S4x1024x1 .f32)
    (i : Fin 4) (s : Fin 1024) (j : Fin 7168) :
    k0_pay12 h am n e c (ix3 i s j) = min (Ideal.ofBits .f32 0x43E00000#32) (max (Ideal.ofBits .f32 0xC3E00000#32)
      (h (ix3 i s j) * rpow (0 - k0_pay10 am n e c (ix3 i s 0)))) := by
  pointwise [k0_pay12, rpow]
  rfl

/-- The codes as the contraction's left operand. -/
theorem flat_apply (q : FVec Ideal S4x1024x7168 .fp8e4m3) (i : Fin 4) (s : Fin 1024) (j : Fin 7168) :
    shapeCast S4096x7168 q shapeCasts_S4x1024x7168_S4096x7168 (ix2 ⟨i.val * 1024 + s.val, by omega⟩ j) = q (ix3 i s j) := by
  pointwise []

theorem proj_apply (sc : FVec Ideal S4x1024x1 .f32) (q : FVec Ideal S4096x7168 .fp8e4m3) (w : Vec Ideal S2304x7168 .fp8e4m3)
    (ws : Vec Ideal S1x1x2304 .f32) (i : Fin 4) (s : Fin 1024) (j : Fin 2304) :
    k0_pay14 sc q w ws (ix3 i s j)
      = (∑ k : Fin 7168, q (ix2 ⟨i.val * 1024 + s.val, by omega⟩ k) * w (ix2 j k)) * sc (ix3 i s 0) * ws (ix3 0 0 j) := by
  pointwise [k0_pay14]

theorem angle_apply (p : Vec Ideal S4x1024x1 .i32) (i : Fin 4) (s : Fin 1024) (j : Fin 64) :
    k0_pay17 p (ix3 i s j) = angle (p (ix3 i s 0)) j := by
  pointwise [k0_pay17]
  rfl

theorem cos_apply (a : FVec Ideal S4x1024x64 .f32) (i : Fin 4) (s : Fin 1024) (u : Fin 1) (j : Fin 64) :
    shapeCast S4x1024x1x64 (cos a) shapeCasts_S4x1024x64_S4x1024x1x64 (ix4 i s u j) = Ideal.cos (a (ix3 i s j)) := by
  pointwise []

theorem sin_apply (a : FVec Ideal S4x1024x64 .f32) (i : Fin 4) (s : Fin 1024) (u : Fin 1) (j : Fin 64) :
    shapeCast S4x1024x1x64 (sin a) shapeCasts_S4x1024x64_S4x1024x1x64 (ix4 i s u j) = Ideal.sin (a (ix3 i s j)) := by
  pointwise []

/-- The query heads of a projection `y`, rotated. -/
def turnQ (y : FVec Ideal S4x1024x2304 .f32) (c s : FVec Ideal S4x1024x1x64 .f32) : FVec Ideal S4x1024x14x128 .f32 :=
  have v88 : FVec Ideal S4x1024x1792 .f32 := extractStridedSlice S4x1024x1792 ![0, 0, 0] y slices_S4x1024x2304_o0_0_0_S4x1024x1792
  have v89 : FVec Ideal S4x1024x14x128 .f32 := shapeCast S4x1024x14x128 v88 shapeCasts_S4x1024x1792_S4x1024x14x128
  have v114 : FVec Ideal S4x1024x14x64 .f32 := extractStridedSlice S4x1024x14x64 ![0, 0, 0, 0] v89 slices_S4x1024x14x128_o0_0_0_0_S4x1024x14x64
  have v115 : FVec Ideal S4x1024x14x64 .f32 := extractStridedSlice S4x1024x14x64 ![0, 0, 0, 64] v89 slices_S4x1024x14x128_o0_0_0_64_S4x1024x14x64
  have v116 : FVec Ideal S4x1024x14x64 .f32 := broadcastTo S4x1024x14x64 c broadcasts_S4x1024x1x64_S4x1024x14x64
  have v117 : FVec Ideal S4x1024x14x64 .f32 := mulf v114 v116
  have v118 : FVec Ideal S4x1024x14x64 .f32 := broadcastTo S4x1024x14x64 s broadcasts_S4x1024x1x64_S4x1024x14x64
  have v119 : FVec Ideal S4x1024x14x64 .f32 := mulf v115 v118
  have v120 : FVec Ideal S4x1024x14x64 .f32 := subf v117 v119
  have v121 : FVec Ideal S4x1024x14x64 .f32 := broadcastTo S4x1024x14x64 c broadcasts_S4x1024x1x64_S4x1024x14x64
  have v122 : FVec Ideal S4x1024x14x64 .f32 := mulf v115 v121
  have v123 : FVec Ideal S4x1024x14x64 .f32 := broadcastTo S4x1024x14x64 s broadcasts_S4x1024x1x64_S4x1024x14x64
  have v124 : FVec Ideal S4x1024x14x64 .f32 := mulf v114 v123
  have v125 : FVec Ideal S4x1024x14x64 .f32 := addf v122 v124
  concatenate S4x1024x14x128 3 [⟨S4x1024x14x64, v120⟩, ⟨S4x1024x14x64, v125⟩] concatenates_S4x1024x14x64_S4x1024x14x64_S4x1024x14x128_d3

theorem turnQ_apply (y : FVec Ideal S4x1024x2304 .f32) (c s : FVec Ideal S4x1024x1x64 .f32) (i : Fin 4) (t : Fin 1024) (h : Fin 14)
    (j : Fin 128) (p : BitVec 32) (hc : ∀ l : Fin 64, c (ix4 i t 0 l) = Ideal.cos (angle p l))
    (hs : ∀ l : Fin 64, s (ix4 i t 0 l) = Ideal.sin (angle p l)) :
    turnQ y c s (ix4 i t h j) = rope (fun k => y (ix3 i t ⟨h.val * 128 + k.val, by omega⟩)) p j := by
  pointwise [turnQ]
  simp only [hc, hs, rope]

theorem turnK_apply (y : FVec Ideal S4x1024x2x128 .f32) (c s : FVec Ideal S4x1024x1x64 .f32) (i : Fin 4) (t : Fin 1024) (h : Fin 2)
    (j : Fin 128) (p : BitVec 32) (hc : ∀ l : Fin 64, c (ix4 i t 0 l) = Ideal.cos (angle p l))
    (hs : ∀ l : Fin 64, s (ix4 i t 0 l) = Ideal.sin (angle p l)) :
    k0_pay2 y c s (ix4 i t h j) = rope (fun k => y (ix4 i t h k)) p j := by
  pointwise [k0_pay2]
  simp only [hc, hs, rope]

/-- A pair of heads of a projection `y`, at a lane offset. -/
theorem pair_apply (off : ℕ) (hs : S4x1024x2304.Slices ![0, 0, off] S4x1024x256) (h : off + 256 ≤ 2304) (y : FVec Ideal S4x1024x2304 .f32)
    (i : Fin 4) (t : Fin 1024) (n : Fin 2) (j : Fin 128) :
    shapeCast S4x1024x2x128 (extractStridedSlice S4x1024x256 ![0, 0, off] y hs) shapeCasts_S4x1024x256_S4x1024x2x128 (ix4 i t n j)
      = y (ix3 i t ⟨off + (n.val * 128 + j.val), by omega⟩) := by
  pointwise []

end Cert.Proof.ReferenceRow
-- ==== Proof.ReferenceOut.lean ====
/-
  What the reference's call leaves in its windows' buffers, as the functions of the rows (Proof/Spec.lean).
-/
module

public import proofs.«01_k».proof.Proof.ReferenceRow
public import Idealize.ShloMosaic.Lib.Pipeline.Value

@[expose] public section

set_option maxRecDepth 16384

noncomputable section

namespace Cert.Proof.ReferenceRow

open Idealize.ShloMosaic Cert.ReferenceIdeal Cert.ReferenceIdeal.Gen Cert.Proof.Exponent Cert.Proof.Spec

variable (x0 : Vec Ideal S4x1024x7168 .bf16) (x1 : Vec Ideal S1x1x7168 .f32) (x2 : Vec Ideal S2304x7168 .fp8e4m3)
  (x3 : Vec Ideal S1x1x2304 .f32) (x4 : Vec Ideal S4x1024x1 .i32)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The row at `(i, s)`, the gain, the weights, their scales. -/
abbrev X (i : Fin 4) (s : Fin 1024) : Fin 7168 → EReal := fun k => x0 (ix3 i s k)
abbrev G : Fin 7168 → EReal := fun k => x1 (ix3 0 0 k)
abbrev Wt : Fin 2304 → Fin 7168 → EReal := fun j k => x2 (ix2 j k)
abbrev Ws : Fin 2304 → EReal := fun j => x3 (ix3 0 0 j)

/-! ## The values the body binds -/

theorem pay21_eq : k0_pay21 x0 x1 x2 x3 x4 = k0_pay4 x0 x1 := by
  unfold k0_pay21
  rw [View.ld_unit_zero hz3, View.ld_unit_zero hz3]

theorem pay22_eq : k0_pay22 x0 x1 x2 x3 x4 = rowMax (k0_pay4 x0 x1) := by
  unfold k0_pay22
  rw [View.ld_unit_zero hz3, View.ld_unit_zero hz3, pay5_eq]

theorem pay23_eq : k0_pay23 x0 x1 x2 x3 x4 = countV (scaled (rowMax (k0_pay4 x0 x1))) := by
  unfold k0_pay23
  rw [View.ld_unit_zero hz3, View.ld_unit_zero hz3, pay7_eq, pay6_eq, pay5_eq]

theorem pay24_eq : k0_pay24 x0 x1 x2 x3 x4 = edgeV (countV (scaled (rowMax (k0_pay4 x0 x1)))) (scaled (rowMax (k0_pay4 x0 x1))) := by
  unfold k0_pay24
  rw [View.ld_unit_zero hz3, View.ld_unit_zero hz3, pay8_eq, pay7_eq, pay6_eq, pay5_eq]

theorem row_eq (i : Fin 4) (s : Fin 1024) : (fun k => k0_pay4 x0 x1 (ix3 i s k)) = normed (X x0 i s) (G x1) := by
  funext k
  exact normed_apply x0 x1 i s k

theorem expo_at (i : Fin 4) (s : Fin 1024) (j : Fin 1) :
    k0_pay10 (k0_pay22 x0 x1 x2 x3 x4) (k0_pay23 x0 x1 x2 x3 x4) (k0_pay24 x0 x1 x2 x3 x4) (k0_pay25 x0 x1 x2 x3 x4) (ix3 i s j)
      = expo (normed (X x0 i s) (G x1)) := by
  unfold k0_pay25
  rw [pay22_eq, pay23_eq, pay24_eq, expo_apply, scaled_apply, rowMax_apply, row_eq]
  rfl

theorem scale_at (i : Fin 4) (s : Fin 1024) (j : Fin 1) :
    k0_pay11 (k0_pay22 x0 x1 x2 x3 x4) (k0_pay23 x0 x1 x2 x3 x4) (k0_pay24 x0 x1 x2 x3 x4) (k0_pay25 x0 x1 x2 x3 x4) (ix3 i s j)
      = scale (normed (X x0 i s) (G x1)) := by
  rw [scale_apply, expo_at]
  rfl

theorem code_at (i : Fin 4) (s : Fin 1024) (j : Fin 7168) :
    k0_pay12 (k0_pay21 x0 x1 x2 x3 x4) (k0_pay22 x0 x1 x2 x3 x4) (k0_pay23 x0 x1 x2 x3 x4) (k0_pay24 x0 x1 x2 x3 x4)
      (k0_pay25 x0 x1 x2 x3 x4) (ix3 i s j) = code (normed (X x0 i s) (G x1)) j := by
  rw [code_apply, expo_at, pay21_eq, normed_apply]
  rfl

/-- The fused projection. -/
def projV : FVec Ideal S4x1024x2304 .f32 := k0_pay14 (k0_pay26 x0 x1 x2 x3 x4) (k0_pay27 x0 x1 x2 x3 x4) x2 x3

theorem qkv_at (i : Fin 4) (s : Fin 1024) (j : Fin 2304) :
    projV x0 x1 x2 x3 x4 (ix3 i s j) = qkv (X x0 i s) (G x1) (Wt x2) (Ws x3) j := by
  unfold projV
  rw [proj_apply]
  unfold k0_pay26
  rw [scale_at]
  unfold qkv proj
  congr 2
  refine Finset.sum_congr rfl fun k _ => ?_
  unfold k0_pay27 k0_pay13
  rw [flat_apply, code_at]

theorem cos_at (i : Fin 4) (s : Fin 1024) (l : Fin 64) : k0_pay18 x4 (ix4 i s 0 l) = Ideal.cos (angle (x4 (ix3 i s 0)) l) := by
  unfold k0_pay18
  rw [← angle_apply x4 i s l]
  exact cos_apply (k0_pay17 x4) i s 0 l

theorem sin_at (i : Fin 4) (s : Fin 1024) (l : Fin 64) : k0_pay19 x4 (ix4 i s 0 l) = Ideal.sin (angle (x4 (ix3 i s 0)) l) := by
  unfold k0_pay19
  rw [← angle_apply x4 i s l]
  exact sin_apply (k0_pay17 x4) i s 0 l

theorem pay20_eq (a : FVec Ideal S4x1024x1 .f32) (b : FVec Ideal S4096x7168 .fp8e4m3) (w : Vec Ideal S2304x7168 .fp8e4m3)
    (ws : Vec Ideal S1x1x2304 .f32) (p : Vec Ideal S4x1024x1 .i32) :
    k0_pay20 a b w ws p = turnQ (k0_pay14 a b w ws) (k0_pay18 p) (k0_pay19 p) := by
  unfold k0_pay20
  generalize k0_pay14 a b w ws = y
  generalize k0_pay18 p = c
  generalize k0_pay19 p = s
  rfl

theorem trunc1_apply (y : FVec Ideal S4x1024x14x128 .f32) (i : S4x1024x14x128.Idx) : k0_pay1 y i = y i := by
  pointwise [k0_pay1]

theorem trunc3_apply (y : FVec Ideal S4x1024x2x128 .f32) (i : S4x1024x2x128.Idx) : k0_pay3 y i = y i := by
  pointwise [k0_pay3]

/-! ## The windows -/

theorem out5_at (i : Fin 4) (s : Fin 1024) (n : Fin 14) (l : Fin 128) :
    out0_5 x0 x1 x2 x3 x4 (ix4 i s n l) = qRow (X x0 i s) (G x1) (Wt x2) (Ws x3) (x4 (ix3 i s 0)) n l := by
  unfold out0_5
  rw [View.canon_unit_zero hz4, View.ld_unit_zero hz2, View.ld_unit_zero hz3, View.ld_unit_zero hz3, trunc1_apply, pay20_eq]
  refine (turnQ_apply _ _ _ i s n l (x4 (ix3 i s 0)) (cos_at x4 i s) (sin_at x4 i s)).trans ?_
  unfold qRow
  congr 1
  funext k
  exact qkv_at x0 x1 x2 x3 x4 i s _

theorem out6_at (i : Fin 4) (s : Fin 1024) (n : Fin 2) (l : Fin 128) :
    out0_6 x0 x1 x2 x3 x4 (ix4 i s n l) = kRow (X x0 i s) (G x1) (Wt x2) (Ws x3) (x4 (ix3 i s 0)) n l := by
  unfold out0_6
  rw [View.canon_unit_zero hz4, View.ld_unit_zero hz2, View.ld_unit_zero hz3, View.ld_unit_zero hz3]
  refine (turnK_apply _ _ _ i s n l (x4 (ix3 i s 0)) (cos_at x4 i s) (sin_at x4 i s)).trans ?_
  unfold kRow
  congr 1
  funext k
  unfold k0_pay15
  exact (pair_apply 1792 slices_S4x1024x2304_o0_0_1792_S4x1024x256 (by omega) (projV x0 x1 x2 x3 x4) i s n k).trans
    (qkv_at x0 x1 x2 x3 x4 i s _)

theorem out7_at (i : Fin 4) (s : Fin 1024) (n : Fin 2) (l : Fin 128) :
    out0_7 x0 x1 x2 x3 x4 (ix4 i s n l) = vRow (X x0 i s) (G x1) (Wt x2) (Ws x3) n l := by
  unfold out0_7
  rw [View.canon_unit_zero hz4, View.ld_unit_zero hz2, View.ld_unit_zero hz3, trunc3_apply]
  unfold k0_pay16
  exact (pair_apply 2048 slices_S4x1024x2304_o0_0_2048_S4x1024x256 (by omega) (projV x0 x1 x2 x3 x4) i s n l).trans
    (qkv_at x0 x1 x2 x3 x4 i s _)

theorem out8_at (i : Fin 4) (s : Fin 1024) (j : Fin 7168) : out0_8 x0 x1 x2 x3 x4 (ix3 i s j) = code (normed (X x0 i s) (G x1)) j := by
  unfold out0_8
  rw [View.canon_unit_zero hz3, code_at]

theorem out9_at (i : Fin 4) (s : Fin 1024) (j : Fin 1) : out0_9 x0 x1 x2 x3 x4 (ix3 i s j) = scale (normed (X x0 i s) (G x1)) := by
  unfold out0_9
  rw [View.canon_unit_zero hz3, scale_at]

end Cert.Proof.ReferenceRow
-- ==== Proof.ReferenceRun.lean ====
/-
  The reference's run with its results: each of the five is the function of the arguments that Proof/Result.lean states.
-/
module

public import proofs.«01_k».proof.Proof.ReferenceOut
public import proofs.«01_k».proof.Proof.Result
public import Idealize.ShloMosaic.Lib.StableHlo.Run

@[expose] public section

set_option maxRecDepth 16384

noncomputable section

namespace Cert.Proof.ReferenceArray

open Idealize.ShloMosaic Idealize.ShloMosaic.TcCoe Idealize.SL.Sem
open Cert.ReferenceIdeal Cert.ReferenceIdeal.Gen Cert.Proof.Spec

variable (m : (ℓ : Loc nD τ sig) → Buf (Elt Ideal) ℓ) (ρ : Dev nD → PrngReg) (c : Dev nD)

/-- The arguments. -/
abbrev arg0 : Vec Ideal S4x1024x7168 .bf16 := m ((c : Thread nD τ).loc main_arg0)
abbrev arg1 : Vec Ideal S7168 .f32 := m ((c : Thread nD τ).loc main_arg1)
abbrev arg2 : Vec Ideal S2304x7168 .fp8e4m3 := m ((c : Thread nD τ).loc main_arg2)
abbrev arg3 : Vec Ideal S2304 .f32 := m ((c : Thread nD τ).loc main_arg3)
abbrev arg4 : Vec Ideal S4x1024 .i32 := m ((c : Thread nD τ).loc main_arg4)

/-! ## The staged operands -/

theorem V_v0 : V m c main_v0 = shapeCast S1x1x7168 (arg1 m c) shapeCasts_S7168_S1x1x7168 := by
  show StableHlo.after hostOps0 _ (Proc.devRef .tc main_v0) = _
  after_results
  rfl

theorem V_v1 : V m c main_v1 = shapeCast S1x1x2304 (arg3 m c) shapeCasts_S2304_S1x1x2304 := by
  show StableHlo.after hostOps0 _ (Proc.devRef .tc main_v1) = _
  after_results
  rfl

theorem V_v2 : V m c main_v2
    = (broadcastInDim S4x1024x1 ![0, 1] bcast_S4x1024_S4x1024x1_0_1 : (⟨S4x1024, .i32⟩ : BufTy).Contents (Elt Ideal) → (⟨S4x1024x1, .i32⟩ : BufTy).Contents (Elt Ideal)) (arg4 m c) := by
  show StableHlo.after hostOps0 _ (Proc.devRef .tc main_v2) = _
  after_results

theorem gain_apply (a : FVec Ideal S7168 .f32) (k : Fin 7168) :
    shapeCast S1x1x7168 a shapeCasts_S7168_S1x1x7168 (ix3 0 0 k) = a (ix1 k) := by
  pointwise []

theorem wscale_apply (a : FVec Ideal S2304 .f32) (k : Fin 2304) :
    shapeCast S1x1x2304 a shapeCasts_S2304_S1x1x2304 (ix3 0 0 k) = a (ix1 k) := by
  pointwise []

theorem position_apply (a : IVec S4x1024 32) (b : Fin 4) (s : Fin 1024) (u : Fin 1) :
    broadcastInDim S4x1024x1 ![0, 1] bcast_S4x1024_S4x1024x1_0_1 a (ix3 b s u) = a (ix2 b s) := by
  show a _ = a _
  refine congrArg a (funext fun d => ?_)
  match d with
  | ⟨0, _⟩ => rfl
  | ⟨1, _⟩ => rfl

/-- The one grid point. -/
def t₀ : Fin cfg0.N := ⟨0, by decide⟩

/-! ## The blocks are the whole arrays -/

theorem block0 : iblk m c 0 t₀ = V m c main_arg0 := by
  have hz : (fun a => win0_0.index t₀ a * main_arg0.ty.shape.size a) = fun _ => 0 := funext fun a => by fin_cases a <;> decide
  unfold iblk
  exact Memref.read_access_unit_zero (Elt Ideal) main_arg0 hz (fun a => by fin_cases a <;> decide) _

theorem block1 : iblk m c 1 t₀ = V m c main_v0 := by
  have hz : (fun a => win0_1.index t₀ a * main_v0.ty.shape.size a) = fun _ => 0 := funext fun a => by fin_cases a <;> decide
  unfold iblk
  exact Memref.read_access_unit_zero (Elt Ideal) main_v0 hz (fun a => by fin_cases a <;> decide) _

theorem block2 : iblk m c 2 t₀ = V m c main_arg2 := by
  have hz : (fun a => win0_2.index t₀ a * main_arg2.ty.shape.size a) = fun _ => 0 := funext fun a => by fin_cases a <;> decide
  unfold iblk
  exact Memref.read_access_unit_zero (Elt Ideal) main_arg2 hz (fun a => by fin_cases a <;> decide) _

theorem block3 : iblk m c 3 t₀ = V m c main_v1 := by
  have hz : (fun a => win0_3.index t₀ a * main_v1.ty.shape.size a) = fun _ => 0 := funext fun a => by fin_cases a <;> decide
  unfold iblk
  exact Memref.read_access_unit_zero (Elt Ideal) main_v1 hz (fun a => by fin_cases a <;> decide) _

theorem block4 : iblk m c 4 t₀ = V m c main_v2 := by
  have hz : (fun a => win0_4.index t₀ a * main_v2.ty.shape.size a) = fun _ => 0 := funext fun a => by fin_cases a <;> decide
  unfold iblk
  exact Memref.read_access_unit_zero (Elt Ideal) main_v2 hz (fun a => by fin_cases a <;> decide) _

/-! ## The rows are the tokens -/

theorem row_token (b : Fin 4) (s : Fin 1024) : ReferenceRow.X (iblk m c 0 t₀) b s = token (arg0 m c) b s := by
  rw [block0, V_main_arg0]

theorem row_gain : ReferenceRow.G (iblk m c 1 t₀) = gain (arg1 m c) := by
  rw [block1, V_v0]
  funext k
  exact gain_apply (arg1 m c) k

theorem row_weight : ReferenceRow.Wt (iblk m c 2 t₀) = weight (arg2 m c) := by
  rw [block2, V_main_arg2]

theorem row_wscale : ReferenceRow.Ws (iblk m c 3 t₀) = wscale (arg3 m c) := by
  rw [block3, V_v1]
  funext k
  exact wscale_apply (arg3 m c) k

theorem row_position (b : Fin 4) (s : Fin 1024) : (iblk m c 4 t₀ (ix3 b s 0) : BitVec 32) = arg4 m c (ix2 b s) := by
  rw [block4, V_v2]
  exact position_apply (arg4 m c) b s 0

/-! ## The output arrays -/

theorem array5 : (dats m 0 c).arrAt 5 cfg0.N
    = out0_5 (iblk m c 0 t₀) (iblk m c 1 t₀) (iblk m c 2 t₀) (iblk m c 3 t₀) (iblk m c 4 t₀) := by
  have ho : ((cfg0.win 5).blk t₀).view.read (Elt Ideal) ((dats m 0 c).arrAt 5 cfg0.N) = (dats m 0 c).flushed 5 t₀ := by
    rw [show cfg0.N = (t₀ : Fin cfg0.N).val + 1 from rfl, (dats m 0 c).arrAt_succ 5 t₀]
    rw [show (cfg0.win 5).flush t₀ = true from by decide, if_pos rfl]
    exact View.read_write_univ _ _
  have hz : (fun a => win0_5.index t₀ a * main_v3_0.ty.shape.size a) = fun _ => 0 := funext fun a => by fin_cases a <;> decide
  have hr := fun f => Memref.read_access_unit_zero (Elt Ideal) main_v3_0 hz (fun a => by fin_cases a <;> decide) f
  rw [hr] at ho
  rw [ho]
  show (cfg0.win 5).cut _ ((dats m 0 c).after 5 t₀) = _
  rw [after0_5]
  rfl

theorem array6 : (dats m 0 c).arrAt 6 cfg0.N
    = out0_6 (iblk m c 0 t₀) (iblk m c 1 t₀) (iblk m c 2 t₀) (iblk m c 3 t₀) (iblk m c 4 t₀) := by
  have ho : ((cfg0.win 6).blk t₀).view.read (Elt Ideal) ((dats m 0 c).arrAt 6 cfg0.N) = (dats m 0 c).flushed 6 t₀ := by
    rw [show cfg0.N = (t₀ : Fin cfg0.N).val + 1 from rfl, (dats m 0 c).arrAt_succ 6 t₀]
    rw [show (cfg0.win 6).flush t₀ = true from by decide, if_pos rfl]
    exact View.read_write_univ _ _
  have hz : (fun a => win0_6.index t₀ a * main_v3_1.ty.shape.size a) = fun _ => 0 := funext fun a => by fin_cases a <;> decide
  have hr := fun f => Memref.read_access_unit_zero (Elt Ideal) main_v3_1 hz (fun a => by fin_cases a <;> decide) f
  rw [hr] at ho
  rw [ho]
  show (cfg0.win 6).cut _ ((dats m 0 c).after 6 t₀) = _
  rw [after0_6]
  rfl

theorem array7 : (dats m 0 c).arrAt 7 cfg0.N
    = out0_7 (iblk m c 0 t₀) (iblk m c 1 t₀) (iblk m c 2 t₀) (iblk m c 3 t₀) (iblk m c 4 t₀) := by
  have ho : ((cfg0.win 7).blk t₀).view.read (Elt Ideal) ((dats m 0 c).arrAt 7 cfg0.N) = (dats m 0 c).flushed 7 t₀ := by
    rw [show cfg0.N = (t₀ : Fin cfg0.N).val + 1 from rfl, (dats m 0 c).arrAt_succ 7 t₀]
    rw [show (cfg0.win 7).flush t₀ = true from by decide, if_pos rfl]
    exact View.read_write_univ _ _
  have hz : (fun a => win0_7.index t₀ a * main_v3_2.ty.shape.size a) = fun _ => 0 := funext fun a => by fin_cases a <;> decide
  have hr := fun f => Memref.read_access_unit_zero (Elt Ideal) main_v3_2 hz (fun a => by fin_cases a <;> decide) f
  rw [hr] at ho
  rw [ho]
  show (cfg0.win 7).cut _ ((dats m 0 c).after 7 t₀) = _
  rw [after0_7]
  rfl

theorem array8 : (dats m 0 c).arrAt 8 cfg0.N
    = out0_8 (iblk m c 0 t₀) (iblk m c 1 t₀) (iblk m c 2 t₀) (iblk m c 3 t₀) (iblk m c 4 t₀) := by
  have ho : ((cfg0.win 8).blk t₀).view.read (Elt Ideal) ((dats m 0 c).arrAt 8 cfg0.N) = (dats m 0 c).flushed 8 t₀ := by
    rw [show cfg0.N = (t₀ : Fin cfg0.N).val + 1 from rfl, (dats m 0 c).arrAt_succ 8 t₀]
    rw [show (cfg0.win 8).flush t₀ = true from by decide, if_pos rfl]
    exact View.read_write_univ _ _
  have hz : (fun a => win0_8.index t₀ a * main_v3_3.ty.shape.size a) = fun _ => 0 := funext fun a => by fin_cases a <;> decide
  have hr := fun f => Memref.read_access_unit_zero (Elt Ideal) main_v3_3 hz (fun a => by fin_cases a <;> decide) f
  rw [hr] at ho
  rw [ho]
  show (cfg0.win 8).cut _ ((dats m 0 c).after 8 t₀) = _
  rw [after0_8]
  rfl

theorem array9 : (dats m 0 c).arrAt 9 cfg0.N
    = out0_9 (iblk m c 0 t₀) (iblk m c 1 t₀) (iblk m c 2 t₀) (iblk m c 3 t₀) (iblk m c 4 t₀) := by
  have ho : ((cfg0.win 9).blk t₀).view.read (Elt Ideal) ((dats m 0 c).arrAt 9 cfg0.N) = (dats m 0 c).flushed 9 t₀ := by
    rw [show cfg0.N = (t₀ : Fin cfg0.N).val + 1 from rfl, (dats m 0 c).arrAt_succ 9 t₀]
    rw [show (cfg0.win 9).flush t₀ = true from by decide, if_pos rfl]
    exact View.read_write_univ _ _
  have hz : (fun a => win0_9.index t₀ a * main_v3_4.ty.shape.size a) = fun _ => 0 := funext fun a => by fin_cases a <;> decide
  have hr := fun f => Memref.read_access_unit_zero (Elt Ideal) main_v3_4 hz (fun a => by fin_cases a <;> decide) f
  rw [hr] at ho
  rw [ho]
  show (cfg0.win 9).cut _ ((dats m 0 c).after 9 t₀) = _
  rw [after0_9]
  rfl

theorem result5 : (dats m 0 c).arrAt 5 cfg0.N = queries (arg0 m c) (arg1 m c) (arg2 m c) (arg3 m c) (arg4 m c) := by
  rw [array5]
  funext y
  obtain ⟨b, s, n, l, rfl⟩ : ∃ b s n l, y = ix4 b s n l := ⟨_, _, _, _, eq_ix4 y⟩
  refine (ReferenceRow.out5_at _ _ _ _ _ b s n l).trans ?_
  rw [row_token, row_gain, row_weight, row_wscale]
  exact congrArg (fun p => qRow (token (arg0 m c) b s) (gain (arg1 m c)) (weight (arg2 m c)) (wscale (arg3 m c)) p n l) (row_position m c b s)

theorem result6 : (dats m 0 c).arrAt 6 cfg0.N = keys (arg0 m c) (arg1 m c) (arg2 m c) (arg3 m c) (arg4 m c) := by
  rw [array6]
  funext y
  obtain ⟨b, s, n, l, rfl⟩ : ∃ b s n l, y = ix4 b s n l := ⟨_, _, _, _, eq_ix4 y⟩
  refine (ReferenceRow.out6_at _ _ _ _ _ b s n l).trans ?_
  rw [row_token, row_gain, row_weight, row_wscale]
  exact congrArg (fun p => kRow (token (arg0 m c) b s) (gain (arg1 m c)) (weight (arg2 m c)) (wscale (arg3 m c)) p n l) (row_position m c b s)

theorem result7 : (dats m 0 c).arrAt 7 cfg0.N = values (arg0 m c) (arg1 m c) (arg2 m c) (arg3 m c) := by
  rw [array7]
  funext y
  obtain ⟨b, s, n, l, rfl⟩ : ∃ b s n l, y = ix4 b s n l := ⟨_, _, _, _, eq_ix4 y⟩
  refine (ReferenceRow.out7_at _ _ _ _ _ b s n l).trans ?_
  rw [row_token, row_gain, row_weight, row_wscale]
  rfl

theorem result8 : (dats m 0 c).arrAt 8 cfg0.N = codes (arg0 m c) (arg1 m c) := by
  rw [array8]
  funext y
  obtain ⟨b, s, j, rfl⟩ : ∃ b s j, y = ix3 b s j := ⟨_, _, _, eq_ix3 y⟩
  refine (ReferenceRow.out8_at _ _ _ _ _ b s j).trans ?_
  rw [row_token, row_gain]
  rfl

theorem result9 : (dats m 0 c).arrAt 9 cfg0.N = scales (arg0 m c) (arg1 m c) := by
  rw [array9]
  funext y
  obtain ⟨b, s, j, rfl⟩ : ∃ b s j, y = ix3 b s j := ⟨_, _, _, eq_ix3 y⟩
  refine (ReferenceRow.out9_at _ _ _ _ _ b s j).trans ?_
  rw [row_token, row_gain]
  rfl

/-- The run: the five results are the functions of the arguments, and the arguments end unchanged. -/
theorem run : θ_run (defs (F := Ideal)) (onTc (τ := τ) (main (F := Ideal))) ⟨m, fun _ => 0, ρ⟩ (fun r => ∀ c : Dev nD,
    r.2.mem ((c.tc : Thread nD τ).loc main_v3_0) = queries (arg0 m c) (arg1 m c) (arg2 m c) (arg3 m c) (arg4 m c)
    ∧ r.2.mem ((c.tc : Thread nD τ).loc main_v3_1) = keys (arg0 m c) (arg1 m c) (arg2 m c) (arg3 m c) (arg4 m c)
    ∧ r.2.mem ((c.tc : Thread nD τ).loc main_v3_2) = values (arg0 m c) (arg1 m c) (arg2 m c) (arg3 m c)
    ∧ r.2.mem ((c.tc : Thread nD τ).loc main_v3_3) = codes (arg0 m c) (arg1 m c)
    ∧ r.2.mem ((c.tc : Thread nD τ).loc main_v3_4) = scales (arg0 m c) (arg1 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run defs _ _).mono (fun r h c => ?_) (θ_run_and (run_main (F := Ideal) m ρ) (unchanged (F := Ideal) m ρ))
  obtain ⟨h, hu⟩ := h
  exact ⟨((h c).1 5).trans (result5 m c), ((h c).1 6).trans (result6 m c), ((h c).1 7).trans (result7 m c),
    ((h c).1 8).trans (result8 m c), ((h c).1 9).trans (result9 m c), hu c⟩

end Cert.Proof.ReferenceArray
-- ==== Proof.Algebraic.lean ====
/-
  The value claim: both programs run, and their five results are the same functions of equal arguments.
-/
module

public import proofs.«01_k».proof.Defs
public import proofs.«01_k».proof.Proof.KernelRun
public import proofs.«01_k».proof.Proof.ReferenceRun

@[expose] public section

noncomputable section

namespace Cert.Proof

open Idealize.ShloMosaic Idealize.ShloMosaic.TcCoe Idealize.SL.Sem Cert.Proof.Spec

theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, _, _, _, KernelArray.run m g, (θ_run _ _ _).mono (fun r h c => ?_) (ReferenceArray.run m' g')⟩
  obtain ⟨e0, e1, e2, e3, e4⟩ := hargs c
  obtain ⟨h5, h6, h7, h8, h9, hu⟩ := h c
  have a0 : ReferenceArray.arg0 m' c = KernelArray.arg0 m c := e0
  have a1 : ReferenceArray.arg1 m' c = KernelArray.arg1 m c := e1
  have a2 : ReferenceArray.arg2 m' c = KernelArray.arg2 m c := e2
  have a3 : ReferenceArray.arg3 m' c = KernelArray.arg3 m c := e3
  have a4 : ReferenceArray.arg4 m' c = KernelArray.arg4 m c := e4
  rw [a0, a1, a2, a3, a4] at h5 h6
  rw [a0, a1, a2, a3] at h7
  rw [a0, a1] at h8 h9
  exact ⟨h5, h6, h7, h8, h9, hu⟩

end Cert.Proof

end
-- ==== Proof.lean ====
/-
  The proof of `Cert.Claim` (proofs.«01_k».proof.Defs), untrusted: the three frames are the generated ones
  (Proof/Gen/<Name>/Frame.lean); the idealization rewrote nothing; the value claim is Proof/Algebraic.lean's.

  Proof/Exponent.lean: the two ways of taking the quantiser's power-of-two exponent agree on every extended real.
  Proof/Spec.lean, Proof/Result.lean: the results as functions of the arguments, row by row.
  Proof/KernelRow.lean, KernelTile.lean, KernelOut.lean, KernelArray.lean, KernelRun.lean: the kernel computes them.
  Proof/ReferenceRow.lean, ReferenceOut.lean, ReferenceRun.lean: so does the reference.
-/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Algebraic

@[expose] public section

theorem Cert.Proof.claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, fun m ρ _ => Cert.ReferenceIdeal.Gen.frame m ρ,
    trivial, Cert.Proof.algebraic⟩
